-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S40x1x65536 : Shape := ⟨3, ![40, 1, 65536]⟩
abbrev S40x1x128x64 : Shape := ⟨4, ![40, 1, 128, 64]⟩
abbrev S40x4096x512 : Shape := ⟨3, ![40, 4096, 512]⟩
abbrev S40x4096x4 : Shape := ⟨3, ![40, 4096, 4]⟩
abbrev S40x4096x64 : Shape := ⟨3, ![40, 4096, 64]⟩
abbrev S40 : Shape := ⟨1, ![40]⟩
abbrev S40x1x512 : Shape := ⟨3, ![40, 1, 512]⟩
abbrev S40x1x4 : Shape := ⟨3, ![40, 1, 4]⟩
abbrev S40x1x64 : Shape := ⟨3, ![40, 1, 64]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S40x1x65536 .bf16) (main_arg1 : FVec F S40x1x128x64 .bf16) (main_arg2 : FVec F S40x4096x512 .fp8e4m3) (main_arg3 : FVec F S40x4096x4 .f32) (main_arg4 : FVec F S40x4096x64 .bf16) (main_arg5 : IVec S40 32) (main_arg6 : FVec F S40x1x512 .fp8e4m3) (main_arg7 : FVec F S40x1x4 .f32) (main_arg8 : FVec F S40x1x64 .bf16) : IVec S_ 1 :=
  let main_c : IVec S_ 32 := constantI S_ 32 0#32
  let main_v0 : IVec S40 32 := broadcastInDim S40 ![] bcast_S_S40 main_c
  let main_v1 : IVec S40 1 := cmpi .sgt main_arg5 main_v0
  let main_c_0 : IVec S_ 32 := constantI S_ 32 2147483647#32
  let main_v2 : IVec S40 32 := broadcastInDim S40 ![] bcast_S_S40 main_c_0
  let main_v3 : IVec S40 1 := cmpi .slt main_arg5 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Kernel.lean ====
abbrev S40x1x65536 : Shape := ⟨3, ![40, 1, 65536]⟩
abbrev S40x1x128x64 : Shape := ⟨4, ![40, 1, 128, 64]⟩
abbrev S40x4096x512 : Shape := ⟨3, ![40, 4096, 512]⟩
abbrev S40x4096x4 : Shape := ⟨3, ![40, 4096, 4]⟩
abbrev S40x4096x64 : Shape := ⟨3, ![40, 4096, 64]⟩
abbrev S40 : Shape := ⟨1, ![40]⟩
abbrev S40x1x512 : Shape := ⟨3, ![40, 1, 512]⟩
abbrev S40x1x4 : Shape := ⟨3, ![40, 1, 4]⟩
abbrev S40x1x64 : Shape := ⟨3, ![40, 1, 64]⟩
abbrev S40x128x512 : Shape := ⟨3, ![40, 128, 512]⟩
abbrev S40x128x64 : Shape := ⟨3, ![40, 128, 64]⟩
abbrev S40x64x4096 : Shape := ⟨3, ![40, 64, 4096]⟩
abbrev S40x128x1 : Shape := ⟨3, ![40, 128, 1]⟩
abbrev S1x128x512 : Shape := ⟨3, ![1, 128, 512]⟩
abbrev S1x128x64 : Shape := ⟨3, ![1, 128, 64]⟩
abbrev S1x512x512 : Shape := ⟨3, ![1, 512, 512]⟩
abbrev S1 : Shape := ⟨1, ![1]⟩
abbrev S1x512x4 : Shape := ⟨3, ![1, 512, 4]⟩
abbrev S1x64x512 : Shape := ⟨3, ![1, 64, 512]⟩
abbrev S1x1x512 : Shape := ⟨3, ![1, 1, 512]⟩
abbrev S1x1x4 : Shape := ⟨3, ![1, 1, 4]⟩
abbrev S1x1x64 : Shape := ⟨3, ![1, 1, 64]⟩
abbrev S1x128x1 : Shape := ⟨3, ![1, 128, 1]⟩
abbrev S128x128 : Shape := ⟨2, ![128, 128]⟩
abbrev S128x512 : Shape := ⟨2, ![128, 512]⟩
abbrev S128x64 : Shape := ⟨2, ![128, 64]⟩
abbrev S1x512 : Shape := ⟨2, ![1, 512]⟩
abbrev S1x4 : Shape := ⟨2, ![1, 4]⟩
abbrev S1x128 : Shape := ⟨2, ![1, 128]⟩
abbrev S1x1 : Shape := ⟨2, ![1, 1]⟩
abbrev S128 : Shape := ⟨1, ![128]⟩
abbrev S128x1 : Shape := ⟨2, ![128, 1]⟩
abbrev S1x64 : Shape := ⟨2, ![1, 64]⟩
abbrev S512x512 : Shape := ⟨2, ![512, 512]⟩
abbrev S512x4 : Shape := ⟨2, ![512, 4]⟩
abbrev S512x128 : Shape := ⟨2, ![512, 128]⟩
abbrev S512x1 : Shape := ⟨2, ![512, 1]⟩
abbrev S64x512 : Shape := ⟨2, ![64, 512]⟩

abbrev nBuf : Space → Nat
  | .hbm => 13
  | .vmem => 23
  | .smem => 1
  | _ => 0

abbrev bufTy : (tb : Table) → Fin (tcTables nBuf tb) → BufTy
  | .hbm, ⟨0, _⟩ => ⟨S40x1x65536, .bf16⟩
  | .hbm, ⟨1, _⟩ => ⟨S40x1x128x64, .bf16⟩
  | .hbm, ⟨2, _⟩ => ⟨S40x4096x512, .fp8e4m3⟩
  | .hbm, ⟨3, _⟩ => ⟨S40x4096x4, .f32⟩
  | .hbm, ⟨4, _⟩ => ⟨S40x4096x64, .bf16⟩
  | .hbm, ⟨5, _⟩ => ⟨S40x1x512, .fp8e4m3⟩
  | .hbm, ⟨6, _⟩ => ⟨S40x1x4, .f32⟩
  | .hbm, ⟨7, _⟩ => ⟨S40x1x64, .bf16⟩
  | .hbm, ⟨8, _⟩ => ⟨S40x128x512, .bf16⟩
  | .hbm, ⟨9, _⟩ => ⟨S40x128x64, .bf16⟩
  | .hbm, ⟨10, _⟩ => ⟨S40x64x4096, .bf16⟩
  | .hbm, ⟨11, _⟩ => ⟨S40x128x512, .bf16⟩
  | .hbm, ⟨12, _⟩ => ⟨S40x128x1, .f32⟩
  | .local _ .vmem, ⟨0, _⟩ => ⟨S1x128x512, .bf16⟩
  | .local _ .vmem, ⟨1, _⟩ => ⟨S1x128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x512x512, .fp8e4m3⟩
  | .local _ .vmem, ⟨5, _⟩ => ⟨S1x512x512, .fp8e4m3⟩
  | .local _ .vmem, ⟨6, _⟩ => ⟨S1x512x4, .f32⟩
  | .local _ .vmem, ⟨7, _⟩ => ⟨S1x512x4, .f32⟩
  | .local _ .vmem, ⟨8, _⟩ => ⟨S1x64x512, .bf16⟩
  | .local _ .vmem, ⟨9, _⟩ => ⟨S1x64x512, .bf16⟩
  | .local _ .vmem, ⟨10, _⟩ => ⟨S1x1x512, .fp8e4m3⟩
  | .local _ .vmem, ⟨11, _⟩ => ⟨S1x1x512, .fp8e4m3⟩
  | .local _ .vmem, ⟨12, _⟩ => ⟨S1x1x4, .f32⟩
  | .local _ .vmem, ⟨13, _⟩ => ⟨S1x1x4, .f32⟩
  | .local _ .vmem, ⟨14, _⟩ => ⟨S1x1x64, .bf16⟩
  | .local _ .vmem, ⟨15, _⟩ => ⟨S1x1x64, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x1, .f32⟩
  | .local _ .vmem, ⟨19, _⟩ => ⟨S1x128x1, .f32⟩
  | .local _ .vmem, ⟨20, _⟩ => ⟨S128x128, .f32⟩
  | .local _ .vmem, ⟨21, _⟩ => ⟨S128x128, .f32⟩
  | .local _ .vmem, ⟨22, _⟩ => ⟨S128x512, .f32⟩
  | .local _ .smem, ⟨0, _⟩ => ⟨S40, .i32⟩
  | _, _ => ⟨S40x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![40, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, v21.toNat, c0_i32_6.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, v21.toNat, c0_i32_6.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S40x1x65536 : Shape := ⟨3, ![40, 1, 65536]⟩
abbrev S40x1x128x64 : Shape := ⟨4, ![40, 1, 128, 64]⟩
abbrev S40x4096x512 : Shape := ⟨3, ![40, 4096, 512]⟩
abbrev S40x4096x4 : Shape := ⟨3, ![40, 4096, 4]⟩
abbrev S40x4096x64 : Shape := ⟨3, ![40, 4096, 64]⟩
abbrev S40 : Shape := ⟨1, ![40]⟩
abbrev S40x1x512 : Shape := ⟨3, ![40, 1, 512]⟩
abbrev S40x1x4 : Shape := ⟨3, ![40, 1, 4]⟩
abbrev S40x1x64 : Shape := ⟨3, ![40, 1, 64]⟩
abbrev S40x1x1 : Shape := ⟨3, ![40, 1, 1]⟩
abbrev S40x128x512 : Shape := ⟨3, ![40, 128, 512]⟩
abbrev S40x128x64 : Shape := ⟨3, ![40, 128, 64]⟩
abbrev S40x128x1 : Shape := ⟨3, ![40, 128, 1]⟩
abbrev S40x4096x4x128 : Shape := ⟨4, ![40, 4096, 4, 128]⟩
abbrev S40x4096x4x1 : Shape := ⟨4, ![40, 4096, 4, 1]⟩
abbrev S40x1x4x128 : Shape := ⟨4, ![40, 1, 4, 128]⟩
abbrev S40x1x4x1 : Shape := ⟨4, ![40, 1, 4, 1]⟩
abbrev S40x128x4096 : Shape := ⟨3, ![40, 128, 4096]⟩
abbrev S40x128 : Shape := ⟨2, ![40, 128]⟩

abbrev nBuf : Space → Nat
  | .hbm => 14
  | .vmem => 11
  | .smem => 0
  | _ => 0

abbrev bufTy : (tb : Table) → Fin (tcTables nBuf tb) → BufTy
  | .hbm, ⟨0, _⟩ => ⟨S40x1x65536, .bf16⟩
  | .hbm, ⟨1, _⟩ => ⟨S40x1x128x64, .bf16⟩
  | .hbm, ⟨2, _⟩ => ⟨S40x4096x512, .fp8e4m3⟩
  | .hbm, ⟨3, _⟩ => ⟨S40x4096x4, .f32⟩
  | .hbm, ⟨4, _⟩ => ⟨S40x4096x64, .bf16⟩
  | .hbm, ⟨5, _⟩ => ⟨S40, .i32⟩
  | .hbm, ⟨6, _⟩ => ⟨S40x1x512, .fp8e4m3⟩
  | .hbm, ⟨7, _⟩ => ⟨S40x1x4, .f32⟩
  | .hbm, ⟨8, _⟩ => ⟨S40x1x64, .bf16⟩
  | .hbm, ⟨9, _⟩ => ⟨S40x1x1, .i32⟩
  | .hbm, ⟨10, _⟩ => ⟨S40x128x512, .bf16⟩
  | .hbm, ⟨11, _⟩ => ⟨S40x128x64, .bf16⟩
  | .hbm, ⟨12, _⟩ => ⟨S40x128x512, .bf16⟩
  | .hbm, ⟨13, _⟩ => ⟨S40x128x1, .f32⟩
  | .local _ .vmem, ⟨0, _⟩ => ⟨S40x1x1, .i32⟩
  | .local _ .vmem, ⟨1, _⟩ => ⟨S40x128x512, .bf16⟩
  | .local _ .vmem, ⟨2, _⟩ => ⟨S40x128x64, .bf16⟩
  | .local _ .vmem, ⟨3, _⟩ => ⟨S40x4096x512, .fp8e4m3⟩
  | .local _ .vmem, ⟨4, _⟩ => ⟨S40x4096x4, .f32⟩
  | .local _ .vmem, ⟨5, _⟩ => ⟨S40x4096x64, .bf16⟩
  | .local _ .vmem, ⟨6, _⟩ => ⟨S40x1x512, .fp8e4m3⟩
  | .local _ .vmem, ⟨7, _⟩ => ⟨S40x1x4, .f32⟩
  | .local _ .vmem, ⟨8, _⟩ => ⟨S40x1x64, .bf16⟩
  | .local _ .vmem, ⟨9, _⟩ => ⟨S40x128x512, .bf16⟩
  | .local _ .vmem, ⟨10, _⟩ => ⟨S40x128x1, .f32⟩
  | _, _ => ⟨S40x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S40x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x4096x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x1x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x1x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Block.lean ====
module
public import Idealize.ShloMosaic.Lib.Pipeline.ValueKit

/-! The cache block that a grid step reads, as a function of the row's length: the step's own block, or the last block that
holds a cached position if that comes earlier. -/

@[expose] public section

noncomputable section

namespace Cert.Block

open Idealize.ShloMosaic

/-- The length less one, not below zero. -/
def top (w : BitVec 32) : BitVec 32 := Scalar.maxsi (Scalar.subi w 1#32) 0#32

/-- The floor quotient of a word by 512, as the index map spells it. -/
def quot (v3 : BitVec 32) : BitVec 32 :=
  Scalar.select
    (Scalar.andi
      (Scalar.cmpi .ne
        (Scalar.subi (Scalar.extui (Scalar.cmpi .sgt v3 0#32)) (Scalar.extui (Scalar.cmpi .slt v3 0#32)))
        (Scalar.subi (Scalar.extui (Scalar.cmpi .sgt 512#32 0#32)) (Scalar.extui (Scalar.cmpi .slt 512#32 0#32))))
      (Scalar.cmpi .ne (Scalar.remsi v3 512#32) 0#32))
    (Scalar.subi (Scalar.divsi v3 512#32) 1#32) (Scalar.divsi v3 512#32)

/-- The block that step `ci` of a row of length `w` reads. -/
def blk (w ci : BitVec 32) : BitVec 32 := Scalar.minsi ci (quot (top w))

/-- `top` is not negative. -/
theorem top_lt (w : BitVec 32) : (top w).toNat < 2 ^ 31 := by
  unfold top Scalar.maxsi IntOp.maxsi
  split_ifs with h
  · rw [BitVec.slt_iff_toInt_lt] at h
    rw [BitVec.toInt_eq_toNat_cond (x := Scalar.subi w 1#32), show (0#32).toInt = 0 from rfl] at h
    change (Scalar.subi w 1#32).toNat < 2 ^ 31
    split_ifs at h with h' <;> omega
  · simp

/-- Of a word that is not negative, `quot` is the quotient by 512. -/
theorem quot_toNat (n : BitVec 32) (h : n.toNat < 2 ^ 31) : (quot n).toNat = n.toNat / 512 := by
  have hmsb : n.msb = false := by
    rw [BitVec.msb_eq_false_iff_two_mul_lt]; omega
  have hm5 : (512#32).msb = false := by decide
  have hdiv : Scalar.divsi n 512#32 = n / 512#32 := by
    have hc : ¬ IntOp.SDivCorner n 512#32 := by
      unfold IntOp.SDivCorner; simp
    unfold Scalar.divsi IntOp.divsi
    rw [if_neg hc, BitVec.sdiv_eq, hmsb, hm5]; rfl
  have hrem : Scalar.remsi n 512#32 = n % 512#32 := by
    have hc : ¬ IntOp.SDivCorner n 512#32 := by
      unfold IntOp.SDivCorner; simp
    unfold Scalar.remsi IntOp.remsi
    rw [if_neg hc, BitVec.srem_eq, hmsb, hm5]
  unfold quot
  rw [hdiv, hrem]
  by_cases h0 : n = 0#32
  · subst h0; decide
  · have hpos : Scalar.cmpi .sgt n 0#32 = 1#1 := by
      have : (0#32).slt n = true := by
        rw [BitVec.slt_iff_toInt_lt, BitVec.toInt_eq_toNat_of_msb hmsb]
        have : n.toNat ≠ 0 := fun hh => h0 (BitVec.eq_of_toNat_eq (by simpa using hh))
        simp only [BitVec.toInt_zero]; omega
      simp [Scalar.cmpi, IntOp.cmpi, this]
    have hneg : Scalar.cmpi .slt n 0#32 = 0#1 := by
      have : n.slt 0#32 = false := by
        rw [Bool.eq_false_iff, ne_eq, BitVec.slt_iff_toInt_lt, BitVec.toInt_eq_toNat_of_msb hmsb]
        simp
      simp [Scalar.cmpi, IntOp.cmpi, this]
    rw [hpos, hneg]
    have : ∀ b : BitVec 1, Scalar.andi (Scalar.cmpi .ne
        (Scalar.subi (Scalar.extui 1#1) (Scalar.extui 0#1))
        (Scalar.subi (Scalar.extui (Scalar.cmpi .sgt 512#32 0#32)) (Scalar.extui (Scalar.cmpi .slt 512#32 0#32)))) b = 0#1 := by
      decide
    rw [this, Scalar.select, if_neg (by decide), BitVec.toNat_udiv]; rfl

/-- A grid coordinate below 8 as a signed word. -/
theorem ci_toInt {c : ℕ} (hc : c < 8) : (BitVec.ofNat 32 c).toInt = c := by
  rw [BitVec.toInt_eq_toNat_cond]
  simp only [BitVec.toNat_ofNat]
  rw [Nat.mod_eq_of_lt (by omega), if_pos (by omega)]

/-- The block read lies in the cache. -/
theorem blk_lt (w : BitVec 32) {c : ℕ} (hc : c < 8) : (blk w (BitVec.ofNat 32 c)).toNat < 8 := by
  have hq := quot_toNat (top w) (top_lt w)
  have ht := top_lt w
  unfold blk Scalar.minsi IntOp.minsi
  have hcn : (BitVec.ofNat 32 c).toNat = c := by
    simp only [BitVec.toNat_ofNat]; exact Nat.mod_eq_of_lt (by omega)
  split_ifs with h
  · omega
  · rw [BitVec.slt_iff_toInt_lt, ci_toInt hc, BitVec.toInt_eq_toNat_cond] at h
    rw [if_pos (by omega)] at h
    omega

/-- A step below the length reads its own block. -/
theorem blk_active (w : BitVec 32) {c : ℕ} (hc : c < 8) (h : (c : ℤ) * 512 < w.toInt) :
    (blk w (BitVec.ofNat 32 c)).toNat = c := by
  have hq := quot_toNat (top w) (top_lt w)
  have ht := top_lt w
  have hcn : (BitVec.ofNat 32 c).toNat = c := by
    simp only [BitVec.toNat_ofNat]; exact Nat.mod_eq_of_lt (by omega)
  have hw : w.toInt = w.toNat := by
    rw [BitVec.toInt_eq_toNat_cond] at h ⊢
    split_ifs at h ⊢ <;> omega
  have hw2 : w.toNat < 2 ^ 31 := by
    have := BitVec.toInt_lt (x := w); omega
  have hsub : (Scalar.subi w 1#32).toNat = w.toNat - 1 := by
    unfold Scalar.subi IntOp.subi
    rw [BitVec.toNat_sub]
    have : (1#32).toNat = 1 := rfl
    omega
  have htop : (top w).toNat = w.toNat - 1 := by
    unfold top Scalar.maxsi IntOp.maxsi
    split_ifs with h'
    · exact hsub
    · rw [BitVec.slt_iff_toInt_lt, BitVec.toInt_eq_toNat_cond (x := Scalar.subi w 1#32), hsub, if_pos (by omega),
        show (0#32).toInt = 0 from rfl] at h'
      show 0 = _
      omega
  unfold blk Scalar.minsi IntOp.minsi
  split_ifs with h'
  · exact hcn
  · rw [BitVec.slt_iff_toInt_lt, ci_toInt hc, BitVec.toInt_eq_toNat_cond] at h'
    rw [if_pos (by omega)] at h'
    omega

end Cert.Block
-- ==== Proof.OkKernel.lean ====
module
public import proofs.«01_k».proof.Proof.Block
public import proofs.«01_k».proof.Proof.Gen.Kernel.Frame.Runs

/-! For every content of the table of lengths, the blocks that the grid steps of `Kernel` read lie inside their arrays. -/

@[expose] public section

set_option maxRecDepth 16384

noncomputable section

namespace Cert.Kernel.Val

open Idealize.ShloMosaic Idealize.ShloMosaic.TcCoe Idealize.SL.Sem Cert.Kernel Cert.Kernel.Gen

variable {F : FTy → Type} [FloatOps F]

/-- The length that the table holds for the row of a grid point. -/
def word (pf : pre0.Contents (Elt F)) (i : grid0.Coords) : BitVec 32 :=
  pf.at 0 (Rect.unit (s := S40) ![(Scalar.indexCast (BitVec.ofNat 32 (i 0).val)).toNat] S1.size (k0_off1_inb i)) numel1_S1

/-- The block of codes read at a grid point. -/
theorem transform_2 (pf : pre0.Contents (Elt F)) (i : grid0.Coords) :
    cc0_transform_2 k0_off1_inb numel1_S1 pf i
      = ![(BitVec.ofNat 32 (i 0).val).toNat, (Block.blk (word pf i) (BitVec.ofNat 32 (i 1).val)).toNat, 0] := rfl

/-- The block of scales read at a grid point. -/
theorem transform_3 (pf : pre0.Contents (Elt F)) (i : grid0.Coords) :
    cc0_transform_3 k0_off1_inb numel1_S1 pf i
      = ![(BitVec.ofNat 32 (i 0).val).toNat, (Block.blk (word pf i) (BitVec.ofNat 32 (i 1).val)).toNat, 0] := rfl

/-- The block of rotary keys read at a grid point. -/
theorem transform_4 (pf : pre0.Contents (Elt F)) (i : grid0.Coords) :
    cc0_transform_4 k0_off1_inb numel1_S1 pf i
      = ![(BitVec.ofNat 32 (i 0).val).toNat, 0, (Block.blk (word pf i) (BitVec.ofNat 32 (i 1).val)).toNat] := rfl

/-- A row's number as a word is that number. -/
theorem row_toNat (i : grid0.Coords) : (BitVec.ofNat 32 (i 0).val).toNat = (i 0).val := by
  have h : (i 0).val < 40 := (i 0).isLt
  simp only [BitVec.toNat_ofNat]; exact Nat.mod_eq_of_lt (by omega)

/-- The side condition of the prefetched table holds of every table. -/
theorem ok_all (pf : pre0.Contents (Elt F)) : ok0 pf := by
  have hr : ∀ i : grid0.Coords, (i 0).val < 40 := fun i => (i 0).isLt
  have hb : ∀ i : grid0.Coords, (Block.blk (word pf i) (BitVec.ofNat 32 (i 1).val)).toNat < 8 :=
    fun i => Block.blk_lt _ (i 1).isLt
  refine ⟨fun i => ?_, fun i => ?_, fun i => ?_⟩
  · have h : ∀ a, (cc0_transform_2 k0_off1_inb numel1_S1 pf i a + 1) * S1x512x512.size a ≤ S40x4096x512.size a := by
      rw [transform_2, row_toNat]
      have h1 := hr i
      have h2 := hb i
      intro a
      fin_cases a
      · show ((i 0).val + 1) * 1 ≤ 40; omega
      · show ((Block.blk (word pf i) (BitVec.ofNat 32 (i 1).val)).toNat + 1) * 512 ≤ 4096; omega
      · show (0 + 1) * 512 ≤ 512; omega
    refine ⟨h, .inr (.inl (.inr ⟨by decide, rfl, .inl ⟨?_, ?_⟩⟩))⟩
    · exact Dvd.dvd.mul_left (by decide : (4 : ℕ) ∣ 512) _
    · exact (by decide : (4 : ℕ) ∣ 512)
  · refine ⟨?_, .inl rfl⟩
    rw [transform_3, row_toNat]
    have h1 := hr i
    have h2 := hb i
    intro a
    fin_cases a
    · show ((i 0).val + 1) * 1 ≤ 40; omega
    · show ((Block.blk (word pf i) (BitVec.ofNat 32 (i 1).val)).toNat + 1) * 512 ≤ 4096; omega
    · show (0 + 1) * 4 ≤ 4; omega
  · have h : ∀ a, (cc0_transform_4 k0_off1_inb numel1_S1 pf i a + 1) * S1x64x512.size a ≤ S40x64x4096.size a := by
      rw [transform_4, row_toNat]
      have h1 := hr i
      have h2 := hb i
      intro a
      fin_cases a
      · show ((i 0).val + 1) * 1 ≤ 40; omega
      · show (0 + 1) * 64 ≤ 64; omega
      · show ((Block.blk (word pf i) (BitVec.ofNat 32 (i 1).val)).toNat + 1) * 512 ≤ 4096; omega
    refine ⟨h, .inr (.inl (.inr ⟨by decide, rfl, .inl ⟨?_, ?_⟩⟩))⟩
    · exact Dvd.dvd.mul_left (by decide : (2 : ℕ) ∣ 64) _
    · exact (by decide : (2 : ℕ) ∣ 64)

end Cert.Kernel.Val
-- ==== Proof.OkIdeal.lean ====
module
public import proofs.«01_k».proof.Proof.Block
public import proofs.«01_k».proof.Proof.Gen.KernelIdeal.Frame.Runs

/-! For every content of the table of lengths, the blocks that the grid steps of `KernelIdeal` read lie inside their arrays. -/

@[expose] public section

set_option maxRecDepth 16384

noncomputable section

namespace Cert.KernelIdeal.Val

open Idealize.ShloMosaic Idealize.ShloMosaic.TcCoe Idealize.SL.Sem Cert.KernelIdeal Cert.KernelIdeal.Gen

variable {F : FTy → Type} [FloatOps F]

/-- The length that the table holds for the row of a grid point. -/
def word (pf : pre0.Contents (Elt F)) (i : grid0.Coords) : BitVec 32 :=
  pf.at 0 (Rect.unit (s := S40) ![(Scalar.indexCast (BitVec.ofNat 32 (i 0).val)).toNat] S1.size (k0_off1_inb i)) numel1_S1

/-- The block of codes read at a grid point. -/
theorem transform_2 (pf : pre0.Contents (Elt F)) (i : grid0.Coords) :
    cc0_transform_2 k0_off1_inb numel1_S1 pf i
      = ![(BitVec.ofNat 32 (i 0).val).toNat, (Block.blk (word pf i) (BitVec.ofNat 32 (i 1).val)).toNat, 0] := rfl

/-- The block of scales read at a grid point. -/
theorem transform_3 (pf : pre0.Contents (Elt F)) (i : grid0.Coords) :
    cc0_transform_3 k0_off1_inb numel1_S1 pf i
      = ![(BitVec.ofNat 32 (i 0).val).toNat, (Block.blk (word pf i) (BitVec.ofNat 32 (i 1).val)).toNat, 0] := rfl

/-- The block of rotary keys read at a grid point. -/
theorem transform_4 (pf : pre0.Contents (Elt F)) (i : grid0.Coords) :
    cc0_transform_4 k0_off1_inb numel1_S1 pf i
      = ![(BitVec.ofNat 32 (i 0).val).toNat, 0, (Block.blk (word pf i) (BitVec.ofNat 32 (i 1).val)).toNat] := rfl

/-- A row's number as a word is that number. -/
theorem row_toNat (i : grid0.Coords) : (BitVec.ofNat 32 (i 0).val).toNat = (i 0).val := by
  have h : (i 0).val < 40 := (i 0).isLt
  simp only [BitVec.toNat_ofNat]; exact Nat.mod_eq_of_lt (by omega)

/-- The side condition of the prefetched table holds of every table. -/
theorem ok_all (pf : pre0.Contents (Elt F)) : ok0 pf := by
  have hr : ∀ i : grid0.Coords, (i 0).val < 40 := fun i => (i 0).isLt
  have hb : ∀ i : grid0.Coords, (Block.blk (word pf i) (BitVec.ofNat 32 (i 1).val)).toNat < 8 :=
    fun i => Block.blk_lt _ (i 1).isLt
  refine ⟨fun i => ?_, fun i => ?_, fun i => ?_⟩
  · have h : ∀ a, (cc0_transform_2 k0_off1_inb numel1_S1 pf i a + 1) * S1x512x512.size a ≤ S40x4096x512.size a := by
      rw [transform_2, row_toNat]
      have h1 := hr i
      have h2 := hb i
      intro a
      fin_cases a
      · show ((i 0).val + 1) * 1 ≤ 40; omega
      · show ((Block.blk (word pf i) (BitVec.ofNat 32 (i 1).val)).toNat + 1) * 512 ≤ 4096; omega
      · show (0 + 1) * 512 ≤ 512; omega
    refine ⟨h, .inr (.inl (.inr ⟨by decide, rfl, .inl ⟨?_, ?_⟩⟩))⟩
    · exact Dvd.dvd.mul_left (by decide : (4 : ℕ) ∣ 512) _
    · exact (by decide : (4 : ℕ) ∣ 512)
  · refine ⟨?_, .inl rfl⟩
    rw [transform_3, row_toNat]
    have h1 := hr i
    have h2 := hb i
    intro a
    fin_cases a
    · show ((i 0).val + 1) * 1 ≤ 40; omega
    · show ((Block.blk (word pf i) (BitVec.ofNat 32 (i 1).val)).toNat + 1) * 512 ≤ 4096; omega
    · show (0 + 1) * 4 ≤ 4; omega
  · have h : ∀ a, (cc0_transform_4 k0_off1_inb numel1_S1 pf i a + 1) * S1x64x512.size a ≤ S40x64x4096.size a := by
      rw [transform_4, row_toNat]
      have h1 := hr i
      have h2 := hb i
      intro a
      fin_cases a
      · show ((i 0).val + 1) * 1 ≤ 40; omega
      · show (0 + 1) * 64 ≤ 64; omega
      · show ((Block.blk (word pf i) (BitVec.ofNat 32 (i 1).val)).toNat + 1) * 512 ≤ 4096; omega
    refine ⟨h, .inr (.inl (.inr ⟨by decide, rfl, .inl ⟨?_, ?_⟩⟩))⟩
    · exact Dvd.dvd.mul_left (by decide : (2 : ℕ) ∣ 64) _
    · exact (by decide : (2 : ℕ) ∣ 64)

end Cert.KernelIdeal.Val
-- ==== Proof.Lengths.lean ====
module
public import proofs.«01_k».proof.Pre_lengths_in_range
public import Idealize.ShloMosaic.Lib.ReduceAll
public import Idealize.ShloMosaic.Lib.WordCmp
public import Idealize.ShloMosaic.Lib.Pipeline.ValueKit

/-! What the precondition says of the lengths. -/

@[expose] public section

noncomputable section

namespace Cert.Pre_lengths_in_range

open Idealize.ShloMosaic

/-- The side conditions of the precondition's operations. -/
instance facts : Facts where
  bcast_S_S40 := by decide
  reducesTo_S40_S_d0 := by decide
  h_S_ := by decide

/-- Every length is positive and below the largest word. -/
theorem of_fn (x : FVec Ideal S40x1x65536 .bf16) (xr : FVec Ideal S40x1x128x64 .bf16) (cd : FVec Ideal S40x4096x512 .fp8e4m3)
    (sc : FVec Ideal S40x4096x4 .f32) (kr : FVec Ideal S40x4096x64 .bf16) (ln : IVec S40 32) (nk : FVec Ideal S40x1x512 .fp8e4m3)
    (ns : FVec Ideal S40x1x4 .f32) (nr : FVec Ideal S40x1x64 .bf16) (j : S_.Idx) (h : fn (F := Ideal) x xr cd sc kr ln nk ns nr j = 1#1)
    (b : Fin 40) : 0 < (ln (ix1 b)).toInt ∧ (ln (ix1 b)).toInt < 2147483647 := by
  dsimp only [fn] at h
  have e := Host.reduce_andi_all _ _ _ _ j h (ix1 b)
  have e' : IntOp.andi (IntOp.cmpi .sgt (ln (ix1 b)) 0#32) (IntOp.cmpi .slt (ln (ix1 b)) 2147483647#32) = 1#1 := e
  rw [WordCmp.cmpi_sgt_eq, WordCmp.cmpi_slt_eq, WordCmp.andi_ofBool, ← Bool.decide_and, WordCmp.ofBool_decide_eq_one_iff] at e'
  exact e'

end Cert.Pre_lengths_in_range
-- ==== Proof.Online.lean ====
module
public import Idealize.ShloMosaic.Lib.Pipeline.ValueKit

/-! The online softmax over the extended reals. A row of scores `s` is taken in runs of 512 together with one more score `sn`;
the running maximum, normaliser and weighted sum after each run are the maximum, normaliser and weighted sum of the scores
taken so far. The scores may be infinite. -/

@[expose] public section

noncomputable section

namespace Cert.Online

open Idealize.ShloMosaic

/-- The exponential of a difference to a maximum is a nonnegative real. -/
theorem exp_sub_real {a M : EReal} (h : a ≤ M) : ∃ r : ℝ, 0 ≤ r ∧ Ideal.exp (a - M) = (r : EReal) := by
  induction a using EReal.rec with
  | bot => exact ⟨0, le_rfl, by simp [EReal.bot_sub]⟩
  | top =>
    obtain rfl : M = ⊤ := top_le_iff.mp h
    exact ⟨0, le_rfl, by simp [EReal.sub_top]⟩
  | coe a =>
    induction M using EReal.rec with
    | bot => simp at h
    | top => exact ⟨0, le_rfl, by simp [EReal.sub_top]⟩
    | coe M => exact ⟨Real.exp (a - M), (Real.exp_pos _).le, by rw [← EReal.coe_sub, Ideal.exp_coe]⟩

/-- Exponentials of differences to successive maxima multiply. -/
theorem exp_mul_exp {a M M' : EReal} (h : a ≤ M) (h' : M ≤ M') :
    Ideal.exp (a - M) * Ideal.exp (M - M') = Ideal.exp (a - M') := by
  induction M' using EReal.rec with
  | top => simp [EReal.sub_top]
  | bot =>
    obtain rfl : M = ⊥ := le_bot_iff.mp h'
    obtain rfl : a = ⊥ := le_bot_iff.mp h
    simp [EReal.bot_sub]
  | coe M' =>
    induction M using EReal.rec with
    | top => simp at h'
    | bot =>
      obtain rfl : a = ⊥ := le_bot_iff.mp h
      simp [EReal.bot_sub]
    | coe M =>
      induction a using EReal.rec with
      | top => simp at h
      | bot => simp [EReal.bot_sub]
      | coe a =>
        rw [← EReal.coe_sub, ← EReal.coe_sub, ← EReal.coe_sub, Ideal.exp_coe, Ideal.exp_coe, Ideal.exp_coe, ← EReal.coe_mul,
          ← Real.exp_add]
        congr 2; ring

/-- A nonnegative real distributes over a sum. -/
theorem sum_mul_real {ι : Type} (S : Finset ι) (f : ι → EReal) {r : ℝ} (hr : 0 ≤ r) :
    (∑ t ∈ S, f t) * (r : EReal) = ∑ t ∈ S, f t * (r : EReal) := by
  classical
  induction S using Finset.induction_on with
  | empty => simp
  | insert a S ha ih =>
    rw [Finset.sum_insert ha, Finset.sum_insert ha, ← ih,
      EReal.right_distrib_of_nonneg_of_ne_top (EReal.coe_nonneg.mpr hr) (EReal.coe_ne_top r)]

/-- The maximum of the scores below `512 c` and of `sn`. -/
def M (s : ℕ → EReal) (sn : EReal) (c : ℕ) : EReal := (Finset.range (512 * c)).sup s ⊔ sn

/-- The sum of the values below `512 c` and of `vn`, each weighted by the exponential of its score's difference to the maximum. -/
def A (s v : ℕ → EReal) (sn vn : EReal) (c : ℕ) : EReal :=
  ∑ t ∈ Finset.range (512 * c), Ideal.exp (s t - M s sn c) * v t + Ideal.exp (sn - M s sn c) * vn

/-- The normaliser of the scores below `512 c` and of `sn`. -/
def L (s : ℕ → EReal) (sn : EReal) (c : ℕ) : EReal :=
  ∑ t ∈ Finset.range (512 * c), Ideal.exp (s t - M s sn c) + Ideal.exp (sn - M s sn c)

variable (s v : ℕ → EReal) (sn vn : EReal) (c : ℕ)

/-- The normaliser is the weighted sum of ones. -/
theorem L_eq_A : L s sn c = A s (fun _ => 1) sn 1 c := by simp [L, A]

/-- The maximum of one run of 512 scores. -/
def runMax : EReal := Finset.univ.sup fun j : Fin 512 => s (512 * c + j.val)

theorem le_M {t : ℕ} (h : t < 512 * c) : s t ≤ M s sn c :=
  le_sup_of_le_left (Finset.le_sup (f := s) (Finset.mem_range.mpr h))

theorem sn_le_M : sn ≤ M s sn c := le_sup_right

/-- The next maximum is the larger of the maximum so far and the maximum of the run. -/
theorem M_succ : M s sn (c + 1) = M s sn c ⊔ runMax s c := by
  unfold M runMax
  apply le_antisymm
  · refine sup_le (Finset.sup_le fun t ht => ?_) (le_sup_of_le_left le_sup_right)
    rcases lt_or_ge t (512 * c) with h | h
    · exact le_sup_of_le_left (le_sup_of_le_left (Finset.le_sup (f := s) (Finset.mem_range.mpr h)))
    · refine le_sup_of_le_right ?_
      have ht := Finset.mem_range.mp ht
      have := Finset.le_sup (f := fun j : Fin 512 => s (512 * c + j.val)) (Finset.mem_univ ⟨t - 512 * c, by omega⟩)
      simpa [Nat.add_sub_cancel' h] using this
  · refine sup_le (sup_le (le_sup_of_le_left (Finset.sup_mono (Finset.range_mono (by omega)))) le_sup_right) ?_
    refine le_sup_of_le_left (Finset.sup_le fun j _ => ?_)
    exact Finset.le_sup (f := s) (Finset.mem_range.mpr (by omega))

theorem M_le_succ : M s sn c ≤ M s sn (c + 1) := by rw [M_succ]; exact le_sup_left

/-- Before the first run the maximum is `sn`. -/
theorem M_zero : M s sn 0 = sn := by simp [M]

/-- The weighted sum after one more run: the sum so far rescaled to the new maximum, plus the run's own weighted sum. -/
theorem A_succ : A s v sn vn (c + 1) = A s v sn vn c * Ideal.exp (M s sn c - M s sn (c + 1))
    + ∑ j : Fin 512, Ideal.exp (s (512 * c + j.val) - M s sn (c + 1)) * v (512 * c + j.val) := by
  obtain ⟨r, hr, hre⟩ := exp_sub_real (M_le_succ s sn c)
  have key : A s v sn vn c * Ideal.exp (M s sn c - M s sn (c + 1))
      = ∑ t ∈ Finset.range (512 * c), Ideal.exp (s t - M s sn (c + 1)) * v t + Ideal.exp (sn - M s sn (c + 1)) * vn := by
    unfold A
    rw [hre, EReal.right_distrib_of_nonneg_of_ne_top (EReal.coe_nonneg.mpr hr) (EReal.coe_ne_top r), sum_mul_real _ _ hr,
      ← hre, mul_right_comm, exp_mul_exp (sn_le_M s sn c) (M_le_succ s sn c)]
    congr 1
    refine Finset.sum_congr rfl fun t ht => ?_
    rw [mul_right_comm, exp_mul_exp (le_M s sn c (Finset.mem_range.mp ht)) (M_le_succ s sn c)]
  rw [key, ← Finset.sum_range (fun j => Ideal.exp (s (512 * c + j) - M s sn (c + 1)) * v (512 * c + j))]
  conv_lhs => unfold A
  rw [Nat.mul_succ, Finset.sum_range_add, add_right_comm]

/-- The normaliser after one more run. -/
theorem L_succ : L s sn (c + 1) = L s sn c * Ideal.exp (M s sn c - M s sn (c + 1))
    + ∑ j : Fin 512, Ideal.exp (s (512 * c + j.val) - M s sn (c + 1)) := by
  simp only [L_eq_A, A_succ, mul_one]

/-- The weighted sum after the first run, which the kernel starts from the value `vn` with weight one. -/
theorem A_one : A s v sn vn 1 = vn * Ideal.exp (M s sn 0 - M s sn 1)
    + ∑ j : Fin 512, Ideal.exp (s (512 * 0 + j.val) - M s sn 1) * v (512 * 0 + j.val) := by
  rw [← Finset.sum_range (fun j => Ideal.exp (s (512 * 0 + j) - M s sn 1) * v (512 * 0 + j)), M_zero, add_comm, mul_comm vn]
  simp [A]

/-- The normaliser after the first run, which the kernel starts from one. -/
theorem L_one : L s sn 1 = 1 * Ideal.exp (M s sn 0 - M s sn 1)
    + ∑ j : Fin 512, Ideal.exp (s (512 * 0 + j.val) - M s sn 1) := by
  simp only [L_eq_A, A_one, mul_one]

/-- A run with no valid position changes the maximum by nothing. -/
theorem M_skip (h : ∀ j : Fin 512, s (512 * c + j.val) = ⊥) : M s sn (c + 1) = M s sn c := by
  rw [M_succ, runMax, Finset.sup_congr rfl fun j _ => h j]; simp

/-- A run with no valid position changes the weighted sum by nothing. -/
theorem A_skip (h : ∀ j : Fin 512, s (512 * c + j.val) = ⊥) : A s v sn vn (c + 1) = A s v sn vn c := by
  have hM := M_skip s sn c h
  unfold A
  rw [hM, Nat.mul_succ, Finset.sum_range_add]
  have : ∑ x ∈ Finset.range 512, Ideal.exp (s (512 * c + x) - M s sn c) * v (512 * c + x) = 0 := by
    refine Finset.sum_eq_zero fun t ht => ?_
    rw [h ⟨t, Finset.mem_range.mp ht⟩]; simp [EReal.bot_sub]
  rw [this, add_zero]

/-- A run with no valid position changes the normaliser by nothing. -/
theorem L_skip (h : ∀ j : Fin 512, s (512 * c + j.val) = ⊥) : L s sn (c + 1) = L s sn c := by
  simp only [L_eq_A, A_skip _ _ _ _ c h]

end Cert.Online
-- ==== Proof.Row.lean ====
module
public import proofs.«01_k».proof.Proof.Online

/-! One row of the decode step over the extended reals: its scores, its output and its log-sum-exp, as functions of the row's
operands. -/

@[expose] public section

noncomputable section

namespace Cert.Row

open Idealize.ShloMosaic Cert.Online

/-- The operands of one row: the queries, the cached codes with their scales and rotary keys, the length, and the new token's
codes, scales and rotary key. -/
structure Row where
  q : Fin 128 → Fin 512 → EReal
  qr : Fin 128 → Fin 64 → EReal
  code : Fin 4096 → Fin 512 → EReal
  scale : Fin 4096 → Fin 4 → EReal
  kr : Fin 4096 → Fin 64 → EReal
  len : BitVec 32
  nk : Fin 512 → EReal
  ns : Fin 4 → EReal
  nr : Fin 64 → EReal

/-- The scale of the scores. -/
def SC : EReal := Ideal.ofBits .f32 0x3D93CD3A#32

/-- One score: the latent product plus the rotary product, scaled. -/
def score (q kv : Fin 512 → EReal) (qr kr : Fin 64 → EReal) : EReal := (∑ c, q c * kv c + ∑ r, qr r * kr r) * SC

/-- The group of 128 channels that a channel lies in. -/
def group (c : Fin 512) : Fin 4 := ⟨c.val / 128, by omega⟩

variable (R : Row)

/-- The cached latent value of a position at a channel. -/
def Row.kv (t : Fin 4096) (c : Fin 512) : EReal := R.code t c * R.scale t (group c)

/-- The new token's latent value at a channel. -/
def Row.kvn (c : Fin 512) : EReal := R.nk c * R.ns (group c)

/-- The masked score of a position under a head. -/
def Row.s (h : Fin 128) (t : ℕ) : EReal :=
  if ht : t < 4096 then if (t : ℤ) < R.len.toInt then score (R.q h) (R.kv ⟨t, ht⟩) (R.qr h) (R.kr ⟨t, ht⟩) else ⊥ else ⊥

/-- The new token's score under a head. -/
def Row.sn (h : Fin 128) : EReal := score (R.q h) R.kvn (R.qr h) R.nr

/-- The value of a position at a channel. -/
def Row.v (d : Fin 512) (t : ℕ) : EReal := if ht : t < 4096 then R.kv ⟨t, ht⟩ d else 0

/-- The output of the row under a head at a channel. -/
def Row.out (h : Fin 128) (d : Fin 512) : EReal :=
  Ideal.div (A (R.s h) (R.v d) (R.sn h) (R.kvn d) 8) (L (R.s h) (R.sn h) 8)

/-- The log-sum-exp of the row under a head, less the logarithm of the number of keys. -/
def Row.lse (h : Fin 128) : EReal :=
  M (R.s h) (R.sn h) 8 + Ideal.log (L (R.s h) (R.sn h) 8) - Ideal.log (((R.len.toInt : ℝ) : EReal) + 1)

/-- The scores of a run that starts at or after the length are all masked. -/
theorem Row.s_bot (h : Fin 128) (c : ℕ) (hc : R.len.toInt ≤ (c : ℤ) * 512) (j : Fin 512) : R.s h (512 * c + j.val) = ⊥ := by
  unfold Row.s
  split_ifs with h1 h2
  · exfalso; push_cast at h2; omega
  · rfl
  · rfl

end Cert.Row
-- ==== Proof.Entry.lean ====
module
public import proofs.«01_k».proof.Proof.Gen.KernelIdeal.Frame
public import proofs.«01_k».proof.Proof.Row
public import proofs.«01_k».proof.Proof.OkIdeal
public import Idealize.ShloMosaic.Lib.WordCmp

/-! The arrays that the kernel's blocks are read from, and the blocks themselves: each entry of a block at a grid step is an entry
of the step's row. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Online Cert.Row

variable (m : (ℓ : Loc nD τ sig) → Buf (Elt Ideal) ℓ) (hO : Ok m)

/-- The grid step's row and run. -/
theorem coords : ∀ t : Fin grid0.N, (grid0.coords t 0).val = t.val / 8 ∧ (grid0.coords t 1).val = t.val % 8 ∧ t.val / 8 < 40 ∧ t.val % 8 < 8 := by
  decide +kernel

/-- A row's operands among the kernel's argument arrays. -/
def rowOf (x : FVec Ideal S40x1x65536 .bf16) (xr : FVec Ideal S40x1x128x64 .bf16) (cd : FVec Ideal S40x4096x512 .fp8e4m3)
    (sc : FVec Ideal S40x4096x4 .f32) (kr : FVec Ideal S40x4096x64 .bf16) (ln : IVec S40 32)
    (nk : FVec Ideal S40x1x512 .fp8e4m3) (ns : FVec Ideal S40x1x4 .f32) (nr : FVec Ideal S40x1x64 .bf16) (b : Fin 40) : Row where
  q h d := x (ix3 b 0 ⟨h.val * 512 + d.val, by omega⟩)
  qr h r := xr (ix4 b 0 h r)
  code t d := cd (ix3 b t d)
  scale t g := sc (ix3 b t g)
  kr t r := kr (ix3 b t r)
  len := ln (ix1 b)
  nk d := nk (ix3 b 0 d)
  ns g := ns (ix3 b 0 g)
  nr r := nr (ix3 b 0 r)

/-- A row's operands among the argument arrays of a memory. -/
def rowAt (b : Fin 40) : Row :=
  rowOf (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (m (((0 : Dev nD) : Thread nD τ).loc main_arg4)) (m (((0 : Dev nD) : Thread nD τ).loc main_arg5))
    (m (((0 : Dev nD) : Thread nD τ).loc main_arg6)) (m (((0 : Dev nD) : Thread nD τ).loc main_arg7))
    (m (((0 : Dev nD) : Thread nD τ).loc main_arg8)) b

/-- The row of a grid step. -/
abbrev rowT (t : Fin (cfgM m hO).N) : Row := rowAt m ⟨t.val / 8, (coords t).2.2.1⟩

/-- The reshaped queries hold the row's queries. -/
theorem V_q (b : Fin 40) (h : Fin 128) (d : Fin 512) :
    (V m 0 main_v0 : FVec Ideal S40x128x512 .bf16) (ix3 b h d) = (rowAt m b).q h d := by
  show _ = (m (((0 : Dev nD) : Thread nD τ).loc main_arg0) : FVec Ideal S40x1x65536 .bf16) (ix3 b 0 ⟨h.val * 512 + d.val, by omega⟩)
  entry_read
  pointwise

/-- The reshaped rotary queries hold the row's. -/
theorem V_qr (b : Fin 40) (h : Fin 128) (r : Fin 64) :
    (V m 0 main_v1 : FVec Ideal S40x128x64 .bf16) (ix3 b h r) = (rowAt m b).qr h r := by
  show _ = (m (((0 : Dev nD) : Thread nD τ).loc main_arg1) : FVec Ideal S40x1x128x64 .bf16) (ix4 b 0 h r)
  entry_read
  pointwise

/-- The transposed rotary keys hold the row's. -/
theorem V_kr (b : Fin 40) (r : Fin 64) (j : Fin 4096) :
    (V m 0 main_v2 : FVec Ideal S40x64x4096 .bf16) (ix3 b r j) = (rowAt m b).kr j r := by
  show _ = (m (((0 : Dev nD) : Thread nD τ).loc main_arg4) : FVec Ideal S40x4096x64 .bf16) (ix3 b j r)
  entry_read
  pointwise

/-- A multi-index of rank three is its coordinates. -/
theorem idx3_eq {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext k
  fin_cases k
  · exact Fin.ext h0
  · exact Fin.ext h1
  · exact Fin.ext h2

/-- The block of window 0 at a grid point: the row's. -/
theorem transform_0 (i : grid0.Coords) : cc0_transform_0 i = ![(i 0).val, 0, 0] :=
  (show cc0_transform_0 i = ![(BitVec.ofNat 32 (i 0).val).toNat, 0, 0] from rfl).trans (by rw [row_toNat])

/-- The block of window 1 at a grid point: the row's. -/
theorem transform_1 (i : grid0.Coords) : cc0_transform_1 i = ![(i 0).val, 0, 0] :=
  (show cc0_transform_1 i = ![(BitVec.ofNat 32 (i 0).val).toNat, 0, 0] from rfl).trans (by rw [row_toNat])

/-- The block of window 5 at a grid point: the row's. -/
theorem transform_5 (i : grid0.Coords) : cc0_transform_5 i = ![(i 0).val, 0, 0] :=
  (show cc0_transform_5 i = ![(BitVec.ofNat 32 (i 0).val).toNat, 0, 0] from rfl).trans (by rw [row_toNat])

/-- The block of window 6 at a grid point: the row's. -/
theorem transform_6 (i : grid0.Coords) : cc0_transform_6 i = ![(i 0).val, 0, 0] :=
  (show cc0_transform_6 i = ![(BitVec.ofNat 32 (i 0).val).toNat, 0, 0] from rfl).trans (by rw [row_toNat])

/-- The block of window 7 at a grid point: the row's. -/
theorem transform_7 (i : grid0.Coords) : cc0_transform_7 i = ![(i 0).val, 0, 0] :=
  (show cc0_transform_7 i = ![(BitVec.ofNat 32 (i 0).val).toNat, 0, 0] from rfl).trans (by rw [row_toNat])

/-- The block of window 8 at a grid point: the row's. -/
theorem transform_8 (i : grid0.Coords) : cc0_transform_8 i = ![(i 0).val, 0, 0] :=
  (show cc0_transform_8 i = ![(BitVec.ofNat 32 (i 0).val).toNat, 0, 0] from rfl).trans (by rw [row_toNat])

/-- The block of window 9 at a grid point: the row's. -/
theorem transform_9 (i : grid0.Coords) : cc0_transform_9 i = ![(i 0).val, 0, 0] :=
  (show cc0_transform_9 i = ![(BitVec.ofNat 32 (i 0).val).toNat, 0, 0] from rfl).trans (by rw [row_toNat])

/-- The length word that the index maps read is the row's length. -/
theorem word_eq (t : Fin (cfgM m hO).N) : word (F := Ideal) (tbl m) (grid0.coords t) = (rowT m hO t).len := by
  show V m 0 main_arg5 _ = (m (((0 : Dev nD) : Thread nD τ).loc main_arg5) : IVec S40 32) (ix1 _)
  rw [V_main_arg5]
  refine congrArg (m (((0 : Dev nD) : Thread nD τ).loc main_arg5) : IVec S40 32) (funext fun a => Fin.ext ?_)
  refine (ValueKit.rect_emb_unit_val (s := S40) _ _ _ _ a).trans ?_
  have hr := row_toNat (grid0.coords t)
  have hc := (coords t).1
  fin_cases a
  show (BitVec.ofNat 32 (grid0.coords t 0).val).toNat + 0 = t.val / 8
  omega

/-- The length word that the body reads is the row's length. -/
theorem body_word (t : Fin (cfgM m hO).N) :
    tbM0_0.view.readAt (Elt Ideal) (Rect.unit (s := S40) (k0_off1 (grid0.coords t)) S1.size (k0_off1_inb (grid0.coords t))).toLoadRect (tbl m 0) (Shape.Idx.first (numel1_S1.symm ▸ Nat.one_pos))
      = (rowT m hO t).len := by
  exact word_eq m hO t

/-- The body's branch on the length is taken exactly when the run starts before the length. -/
theorem cond_iff (t : Fin (cfgM m hO).N) (w : BitVec 32) :
    cond0_1 (grid0.coords t) w ↔ ((t.val % 8 : ℕ) : ℤ) * 512 < w.toInt := by
  have hc := coords t
  unfold cond0_1
  rw [hc.2.1]
  have e : (Scalar.muli (BitVec.ofNat 32 (t.val % 8)) 512#32).toInt = ((t.val % 8 : ℕ) : ℤ) * 512 := by
    have h8 := hc.2.2.2
    show (BitVec.ofNat 32 (t.val % 8) * 512#32).toInt = _
    have e : (BitVec.ofNat 32 (t.val % 8) * 512#32).toNat = t.val % 8 * 512 := by
      simp [BitVec.toNat_mul]; omega
    rw [BitVec.toInt_eq_toNat_cond, e, if_pos (by omega)]
    push_cast; rfl
  show IntOp.cmpi .ne (BitVec.setWidth 32 (IntOp.cmpi .slt (Scalar.muli (BitVec.ofNat 32 (t.val % 8)) 512#32) w)) 0#32 = 1#1 ↔ _
  rw [WordCmp.cmpi_slt_eq, e]
  by_cases h : ((t.val % 8 : ℕ) : ℤ) * 512 < w.toInt
  · simp only [h, decide_true]; decide
  · simp only [h, decide_false]; decide

/-- A grid step's row as a word is that number. -/
theorem rowT_toNat (t : Fin (cfgM m hO).N) : (BitVec.ofNat 32 (t.val / 8)).toNat = t.val / 8 := by
  have := (coords t).2.2.1
  simp only [BitVec.toNat_ofNat]; exact Nat.mod_eq_of_lt (by omega)

/-- A run that starts before the length reads its own block. -/
theorem blk_eq (t : Fin (cfgM m hO).N) (h : ((t.val % 8 : ℕ) : ℤ) * 512 < (rowT m hO t).len.toInt) :
    (Block.blk (word (F := Ideal) (tbl m) (grid0.coords t)) (BitVec.ofNat 32 (grid0.coords t 1).val)).toNat = t.val % 8 := by
  rw [word_eq m hO t, (coords t).2.1]
  exact Block.blk_active _ (coords t).2.2.2 h

/-- The block of queries holds the row's. -/
theorem iblk0 (t : Fin (cfgM m hO).N) (h : Fin 128) (d : Fin 512) :
    (iblk m hO 0 0 t : FVec Ideal S1x128x512 .bf16) (ix3 0 h d) = (rowT m hO t).q h d := by
  have e : ∀ a : Fin 3, ((((cfgM m hO).win 0).blk t).view.emb (ix3 0 h d : S1x128x512.Idx) a : ℕ)
      = cc0_transform_0 (grid0.coords t) a * S1x128x512.size a + ((ix3 0 h d : S1x128x512.Idx) a : ℕ) :=
    fun a => ValueKit.view_emb_slice_whole_unit_val main_v0 _ _ _ _ a
  simp only [transform_0, (coords t).1] at e
  refine (congrArg (V m 0 main_v0 : FVec Ideal S40x128x512 .bf16)
    (idx3_eq _ ⟨t.val / 8, (coords t).2.2.1⟩ h d ((e 0).trans ?_) ((e 1).trans ?_) ((e 2).trans ?_))).trans ?_
  · show t.val / 8 * 1 + 0 = t.val / 8; omega
  · show 0 * 128 + h.val = h.val; omega
  · show 0 * 512 + d.val = d.val; omega
  · exact V_q m _ h d

/-- The block of rotary queries holds the row's. -/
theorem iblk1 (t : Fin (cfgM m hO).N) (h : Fin 128) (r : Fin 64) :
    (iblk m hO 0 1 t : FVec Ideal S1x128x64 .bf16) (ix3 0 h r) = (rowT m hO t).qr h r := by
  have e : ∀ a : Fin 3, ((((cfgM m hO).win 1).blk t).view.emb (ix3 0 h r : S1x128x64.Idx) a : ℕ)
      = cc0_transform_1 (grid0.coords t) a * S1x128x64.size a + ((ix3 0 h r : S1x128x64.Idx) a : ℕ) :=
    fun a => ValueKit.view_emb_slice_whole_unit_val main_v1 _ _ _ _ a
  simp only [transform_1, (coords t).1] at e
  refine (congrArg (V m 0 main_v1 : FVec Ideal S40x128x64 .bf16)
    (idx3_eq _ ⟨t.val / 8, (coords t).2.2.1⟩ h r ((e 0).trans ?_) ((e 1).trans ?_) ((e 2).trans ?_))).trans ?_
  · show t.val / 8 * 1 + 0 = t.val / 8; omega
  · show 0 * 128 + h.val = h.val; omega
  · show 0 * 64 + r.val = r.val; omega
  · exact V_qr m _ h r

/-- The block of new token's codes holds the row's. -/
theorem iblk5 (t : Fin (cfgM m hO).N) (d : Fin 512) :
    (iblk m hO 0 5 t : FVec Ideal S1x1x512 .fp8e4m3) (ix3 0 0 d) = (rowT m hO t).nk d := by
  have e : ∀ a : Fin 3, ((((cfgM m hO).win 5).blk t).view.emb (ix3 0 0 d : S1x1x512.Idx) a : ℕ)
      = cc0_transform_5 (grid0.coords t) a * S1x1x512.size a + ((ix3 0 0 d : S1x1x512.Idx) a : ℕ) :=
    fun a => ValueKit.view_emb_slice_whole_unit_val main_arg6 _ _ _ _ a
  simp only [transform_5, (coords t).1] at e
  refine (congrArg (V m 0 main_arg6 : FVec Ideal S40x1x512 .fp8e4m3)
    (idx3_eq _ ⟨t.val / 8, (coords t).2.2.1⟩ 0 d ((e 0).trans ?_) ((e 1).trans ?_) ((e 2).trans ?_))).trans ?_
  · show t.val / 8 * 1 + 0 = t.val / 8; omega
  · show 0 * 1 + 0 = 0; omega
  · show 0 * 512 + d.val = d.val; omega
  · rw [V_main_arg6]; rfl

/-- The block of new token's scales holds the row's. -/
theorem iblk6 (t : Fin (cfgM m hO).N) (g : Fin 4) :
    (iblk m hO 0 6 t : FVec Ideal S1x1x4 .f32) (ix3 0 0 g) = (rowT m hO t).ns g := by
  have e : ∀ a : Fin 3, ((((cfgM m hO).win 6).blk t).view.emb (ix3 0 0 g : S1x1x4.Idx) a : ℕ)
      = cc0_transform_6 (grid0.coords t) a * S1x1x4.size a + ((ix3 0 0 g : S1x1x4.Idx) a : ℕ) :=
    fun a => ValueKit.view_emb_slice_whole_unit_val main_arg7 _ _ _ _ a
  simp only [transform_6, (coords t).1] at e
  refine (congrArg (V m 0 main_arg7 : FVec Ideal S40x1x4 .f32)
    (idx3_eq _ ⟨t.val / 8, (coords t).2.2.1⟩ 0 g ((e 0).trans ?_) ((e 1).trans ?_) ((e 2).trans ?_))).trans ?_
  · show t.val / 8 * 1 + 0 = t.val / 8; omega
  · show 0 * 1 + 0 = 0; omega
  · show 0 * 4 + g.val = g.val; omega
  · rw [V_main_arg7]; rfl

/-- The block of new token's rotary key holds the row's. -/
theorem iblk7 (t : Fin (cfgM m hO).N) (r : Fin 64) :
    (iblk m hO 0 7 t : FVec Ideal S1x1x64 .bf16) (ix3 0 0 r) = (rowT m hO t).nr r := by
  have e : ∀ a : Fin 3, ((((cfgM m hO).win 7).blk t).view.emb (ix3 0 0 r : S1x1x64.Idx) a : ℕ)
      = cc0_transform_7 (grid0.coords t) a * S1x1x64.size a + ((ix3 0 0 r : S1x1x64.Idx) a : ℕ) :=
    fun a => ValueKit.view_emb_slice_whole_unit_val main_arg8 _ _ _ _ a
  simp only [transform_7, (coords t).1] at e
  refine (congrArg (V m 0 main_arg8 : FVec Ideal S40x1x64 .bf16)
    (idx3_eq _ ⟨t.val / 8, (coords t).2.2.1⟩ 0 r ((e 0).trans ?_) ((e 1).trans ?_) ((e 2).trans ?_))).trans ?_
  · show t.val / 8 * 1 + 0 = t.val / 8; omega
  · show 0 * 1 + 0 = 0; omega
  · show 0 * 64 + r.val = r.val; omega
  · rw [V_main_arg8]; rfl

/-- The block of codes holds the run's part of the row's, if the run starts before the length. -/
theorem iblk2 (t : Fin (cfgM m hO).N) (h : ((t.val % 8 : ℕ) : ℤ) * 512 < (rowT m hO t).len.toInt) (j : Fin 512) (d : Fin 512) :
    (iblk m hO 0 2 t : FVec Ideal S1x512x512 .fp8e4m3) (ix3 0 j d) = (rowT m hO t).code ⟨512 * (t.val % 8) + j.val, by omega⟩ d := by
  have e : ∀ a : Fin 3, ((((cfgM m hO).win 2).blk t).view.emb (ix3 0 j d : S1x512x512.Idx) a : ℕ)
      = cc0_transform_2 k0_off1_inb numel1_S1 (tbl m) (grid0.coords t) a * S1x512x512.size a + ((ix3 0 j d : S1x512x512.Idx) a : ℕ) :=
    fun a => ValueKit.view_emb_slice_whole_unit_val main_arg2 _ _ _ _ a
  simp only [transform_2, rowT_toNat m hO t, blk_eq m hO t h, (coords t).1] at e
  refine (congrArg (V m 0 main_arg2 : FVec Ideal S40x4096x512 .fp8e4m3)
    (idx3_eq _ ⟨t.val / 8, (coords t).2.2.1⟩ ⟨512 * (t.val % 8) + j.val, by omega⟩ d ((e 0).trans ?_) ((e 1).trans ?_) ((e 2).trans ?_))).trans ?_
  · show t.val / 8 * 1 + 0 = t.val / 8; omega
  · show t.val % 8 * 512 + j.val = 512 * (t.val % 8) + j.val; omega
  · show 0 * 512 + d.val = d.val; omega
  · rw [V_main_arg2]; rfl

/-- The block of scales holds the run's part of the row's, if the run starts before the length. -/
theorem iblk3 (t : Fin (cfgM m hO).N) (h : ((t.val % 8 : ℕ) : ℤ) * 512 < (rowT m hO t).len.toInt) (j : Fin 512) (g : Fin 4) :
    (iblk m hO 0 3 t : FVec Ideal S1x512x4 .f32) (ix3 0 j g) = (rowT m hO t).scale ⟨512 * (t.val % 8) + j.val, by omega⟩ g := by
  have e : ∀ a : Fin 3, ((((cfgM m hO).win 3).blk t).view.emb (ix3 0 j g : S1x512x4.Idx) a : ℕ)
      = cc0_transform_3 k0_off1_inb numel1_S1 (tbl m) (grid0.coords t) a * S1x512x4.size a + ((ix3 0 j g : S1x512x4.Idx) a : ℕ) :=
    fun a => ValueKit.view_emb_slice_whole_unit_val main_arg3 _ _ _ _ a
  simp only [transform_3, rowT_toNat m hO t, blk_eq m hO t h, (coords t).1] at e
  refine (congrArg (V m 0 main_arg3 : FVec Ideal S40x4096x4 .f32)
    (idx3_eq _ ⟨t.val / 8, (coords t).2.2.1⟩ ⟨512 * (t.val % 8) + j.val, by omega⟩ g ((e 0).trans ?_) ((e 1).trans ?_) ((e 2).trans ?_))).trans ?_
  · show t.val / 8 * 1 + 0 = t.val / 8; omega
  · show t.val % 8 * 512 + j.val = 512 * (t.val % 8) + j.val; omega
  · show 0 * 4 + g.val = g.val; omega
  · rw [V_main_arg3]; rfl

/-- The block of rotary keys holds the run's part of the row's, if the run starts before the length. -/
theorem iblk4 (t : Fin (cfgM m hO).N) (h : ((t.val % 8 : ℕ) : ℤ) * 512 < (rowT m hO t).len.toInt) (j : Fin 512) (r : Fin 64) :
    (iblk m hO 0 4 t : FVec Ideal S1x64x512 .bf16) (ix3 0 r j) = (rowT m hO t).kr ⟨512 * (t.val % 8) + j.val, by omega⟩ r := by
  have e : ∀ a : Fin 3, ((((cfgM m hO).win 4).blk t).view.emb (ix3 0 r j : S1x64x512.Idx) a : ℕ)
      = cc0_transform_4 k0_off1_inb numel1_S1 (tbl m) (grid0.coords t) a * S1x64x512.size a + ((ix3 0 r j : S1x64x512.Idx) a : ℕ) :=
    fun a => ValueKit.view_emb_slice_whole_unit_val main_v2 _ _ _ _ a
  simp only [transform_4, rowT_toNat m hO t, blk_eq m hO t h, (coords t).1] at e
  refine (congrArg (V m 0 main_v2 : FVec Ideal S40x64x4096 .bf16)
    (idx3_eq _ ⟨t.val / 8, (coords t).2.2.1⟩ r ⟨512 * (t.val % 8) + j.val, by omega⟩ ((e 0).trans ?_) ((e 1).trans ?_) ((e 2).trans ?_))).trans ?_
  · show t.val / 8 * 1 + 0 = t.val / 8; omega
  · show 0 * 64 + r.val = r.val; omega
  · show t.val % 8 * 512 + j.val = 512 * (t.val % 8) + j.val; omega
  · exact V_kr m _ r _

end Cert.KernelIdeal.Val
-- ==== Proof.KernelPay.lean ====
module
public import proofs.«01_k».proof.Proof.Gen.KernelIdeal.Skeleton
public import Idealize.ShloMosaic.Lib.Pipeline.ValueKit
public import proofs.«01_k».proof.Proof.Row

/-! What the vector computations of the kernel's body hold at an index, over the extended reals. -/

@[expose] public section

set_option maxRecDepth 16384

noncomputable section

namespace Cert.KernelIdeal.Pay

open Idealize.ShloMosaic Idealize.ShloMosaic.TcCoe Idealize.SL.Sem
open Cert.KernelIdeal Cert.KernelIdeal.Gen Cert.Online Cert.Row

/-- The chunk's latent values: code times its group's scale. -/
theorem pay15 (code : Vec Ideal S1x512x512 .fp8e4m3) (scale : Vec Ideal S1x512x4 .f32) (j : Fin 512) (c : Fin 512) :
    k0_pay15 (F := Ideal) code scale (ix2 j c) = code (ix3 0 j c) * scale (ix3 0 j (group c)) := by
  pointwise [k0_pay15]
  have hc := c.isLt
  have e (x : Fin 512) (g : Fin 4) (hx : x = c) (hg : g = group c) :
      code (ix3 0 j x) * scale (ix3 0 j g) = code (ix3 0 j c) * scale (ix3 0 j (group c)) := by rw [hx, hg]
  split_ifs <;> refine e _ _ (Fin.ext ?_) (Fin.ext ?_) <;> simp [group] <;> omega

/-- The new token's latent values. -/
theorem pay13 (code : Vec Ideal S1x1x512 .fp8e4m3) (scale : Vec Ideal S1x1x4 .f32) (c : Fin 512) :
    k0_pay13 (F := Ideal) code scale (ix2 0 c) = code (ix3 0 0 c) * scale (ix3 0 0 (group c)) := by
  pointwise [k0_pay13]
  have hc := c.isLt
  have e (x : Fin 512) (g : Fin 4) (hx : x = c) (hg : g = group c) :
      code (ix3 0 0 x) * scale (ix3 0 0 g) = code (ix3 0 0 c) * scale (ix3 0 0 (group c)) := by rw [hx, hg]
  split_ifs <;> refine e _ _ (Fin.ext ?_) (Fin.ext ?_) <;> simp [group] <;> omega

/-- The chunk's scores before the mask. -/
theorem pay16 (code : Vec Ideal S1x512x512 .fp8e4m3) (scale : Vec Ideal S1x512x4 .f32) (q : Vec Ideal S1x128x512 .bf16)
    (qr : Vec Ideal S1x128x64 .bf16) (kr : Vec Ideal S1x64x512 .bf16) (h : Fin 128) (j : Fin 512) :
    k0_pay16 (F := Ideal) code scale q qr kr (ix2 h j)
      = score (fun c => q (ix3 0 h c)) (fun c => code (ix3 0 j c) * scale (ix3 0 j (group c)))
          (fun r => qr (ix3 0 h r)) (fun r => kr (ix3 0 r j)) := by
  pointwise [k0_pay16]
  simp only [pay15]
  rfl

/-- The new token's score before its scale. -/
theorem pay14 (q : Vec Ideal S1x128x512 .bf16) (qr : Vec Ideal S1x128x64 .bf16) (nk : Vec Ideal S1x1x512 .fp8e4m3)
    (ns : Vec Ideal S1x1x4 .f32) (nr : Vec Ideal S1x1x64 .bf16) (h : Fin 128) :
    k0_pay14 (F := Ideal) q qr nk ns nr (ix2 h 0)
      = ∑ c, q (ix3 0 h c) * (nk (ix3 0 0 c) * ns (ix3 0 0 (group c))) + ∑ r, qr (ix3 0 h r) * nr (ix3 0 0 r) := by
  pointwise [k0_pay14]
  simp only [pay13]

/-- The running maximum starts from the new token's score. -/
theorem pay1 (v : FVec Ideal S128x1 .f32) (h x : Fin 128) :
    k0_pay1 (F := Ideal) v (Scalar.ofBits .f32 0x3D93CD3A#32) (ix2 h x) = v (ix2 h 0) * SC := by
  pointwise [k0_pay1]
  rfl

/-- The normaliser starts from one. -/
theorem pay2 (h x : Fin 128) : k0_pay2 (F := Ideal) (ix2 h x) = 1 := by
  pointwise [k0_pay2]

/-- The weighted sum starts from the new token's latent value. -/
theorem pay3 (v : FVec Ideal S1x512 .f32) (h : Fin 128) (d : Fin 512) : k0_pay3 (F := Ideal) v (ix2 h d) = v (ix2 0 d) := by
  pointwise [k0_pay3]

/-- The order of two words of a comparison bit. -/
theorem pay17 (c len : BitVec 32) (h : Fin 128) (j : Fin 512) :
    k0_pay17 (F := Ideal) c len (ix2 h j) = IntOp.cmpi .slt (BitVec.ofNat 32 j.val + c * 512#32) len := by
  pointwise [k0_pay17]
  rfl

/-- The masked scores of a chunk. -/
theorem pay4 (s : FVec Ideal S128x512 .f32) (k : IVec S128x512 1) (h : Fin 128) (j : Fin 512) :
    k0_pay4 (F := Ideal) s k (Scalar.ofBits .f32 0xFF800000#32) (ix2 h j) = if k (ix2 h j) = 1#1 then s (ix2 h j) else ⊥ := by
  pointwise [k0_pay4]
  unfold Scalar.select
  rw [show Ideal.ofBits .f32 0xFF800000#32 = ⊥ by simp [Ideal.ofBits, Ideal.ieee]]
  rfl

section Chunk

variable (s : FVec Ideal S128x512 .f32) (k : IVec S128x512 1) (m : Vec Ideal S128x1 .f32) (l : Vec Ideal S128x128 .f32)
  (a : Vec Ideal S128x512 .f32) (kv : FVec Ideal S512x512 .bf16) (z : Ideal .f32) (S : Fin 128 → Fin 512 → EReal)

/-- The maximum after a chunk. -/
theorem pay5 (h : Fin 128) (hS : ∀ j, k0_pay4 (F := Ideal) s k z (ix2 h j) = S h j) :
    k0_pay5 (F := Ideal) s k z m (ix2 h 0) = m (ix2 h 0) ⊔ Finset.univ.sup (S h) := by
  pointwise [k0_pay5]
  rw [show Ideal.ofBits .f32 0xFF800000#32 = ⊥ by simp [Ideal.ofBits, Ideal.ieee]]
  simp only [hS]
  rfl

/-- The maximum after a chunk, as stored. -/
theorem pay9 (h x : Fin 128) (hS : ∀ j, k0_pay4 (F := Ideal) s k z (ix2 h j) = S h j) :
    k0_pay9 (F := Ideal) s k z m (ix2 h x) = m (ix2 h 0) ⊔ Finset.univ.sup (S h) := by
  rw [← pay5 s k m z S h hS]
  pointwise [k0_pay9]

/-- The normaliser after a chunk. -/
theorem pay8 (h x : Fin 128) (hS : ∀ j, k0_pay4 (F := Ideal) s k z (ix2 h j) = S h j) :
    k0_pay8 (F := Ideal) s k z m l (ix2 h x)
      = l (ix2 h x) * Ideal.exp (m (ix2 h 0) - (m (ix2 h 0) ⊔ Finset.univ.sup (S h)))
        + ∑ j, Ideal.exp (S h j - (m (ix2 h 0) ⊔ Finset.univ.sup (S h))) := by
  rw [← pay5 s k m z S h hS]
  pointwise [k0_pay8, k0_pay7, k0_pay6]
  simp only [hS]

/-- The weighted sum after a chunk. -/
theorem pay10 (h : Fin 128) (d : Fin 512)
    (hS : ∀ j, k0_pay4 (F := Ideal) s k z (ix2 h j) = S h j) :
    k0_pay10 (F := Ideal) kv s k z m a (ix2 h d)
      = a (ix2 h d) * Ideal.exp (m (ix2 h 0) - (m (ix2 h 0) ⊔ Finset.univ.sup (S h)))
        + ∑ j, Ideal.exp (S h j - (m (ix2 h 0) ⊔ Finset.univ.sup (S h))) * kv (ix2 j d) := by
  rw [← pay5 s k m z S h hS]
  pointwise [k0_pay10, k0_pay7, k0_pay6]
  simp only [hS]

end Chunk

/-- The output block. -/
theorem pay11 (l : Vec Ideal S128x1 .f32) (a : Vec Ideal S128x512 .f32) (h : Fin 128) (d : Fin 512) :
    k0_pay11 (F := Ideal) l a (ix3 0 h d) = Ideal.div (a (ix2 h d)) (l (ix2 h 0)) := by
  pointwise [k0_pay11]

/-- The log-sum-exp block. -/
theorem pay12 (len : BitVec 32) (l m : Vec Ideal S128x1 .f32) (h : Fin 128) :
    k0_pay12 (F := Ideal) len l m (ix3 0 h 0)
      = m (ix2 h 0) + Ideal.log (l (ix2 h 0)) - Ideal.log (((len + 1#32).toInt : ℝ) : EReal) := by
  pointwise [k0_pay12]
  rfl

end Cert.KernelIdeal.Pay
-- ==== Proof.Chunk.lean ====
module
public import proofs.«01_k».proof.Proof.KernelPay
public import Idealize.ShloMosaic.Lib.WordCmp

/-! One run of 512 positions as the kernel's body computes it, over blocks that hold a row's operands: the maximum, normaliser and
weighted sum of the row after one more run. -/

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Online Cert.Row

/-- The blocks hold run `c` of the row's cached operands, and the row's queries. -/
structure Holds (R : Row) (c : ℕ) (x0 : Vec Ideal S1x128x512 .bf16) (x1 : Vec Ideal S1x128x64 .bf16)
    (x2 : Vec Ideal S1x512x512 .fp8e4m3) (x3 : Vec Ideal S1x512x4 .f32) (x4 : Vec Ideal S1x64x512 .bf16) : Prop where
  lt : c < 8
  q : ∀ h d, x0 (ix3 0 h d) = R.q h d
  qr : ∀ h r, x1 (ix3 0 h r) = R.qr h r
  code : ∀ (j : Fin 512) d, x2 (ix3 0 j d) = R.code ⟨512 * c + j.val, by omega⟩ d
  scale : ∀ (j : Fin 512) g, x3 (ix3 0 j g) = R.scale ⟨512 * c + j.val, by omega⟩ g
  kr : ∀ (j : Fin 512) r, x4 (ix3 0 r j) = R.kr ⟨512 * c + j.val, by omega⟩ r

/-- The position word of entry `j` of run `c`. -/
theorem pos_toInt {c : ℕ} (hc : c < 8) (j : Fin 512) :
    (BitVec.ofNat 32 j.val + BitVec.ofNat 32 c * 512#32).toInt = ((512 * c + j.val : ℕ) : ℤ) := by
  have e : (BitVec.ofNat 32 j.val + BitVec.ofNat 32 c * 512#32).toNat = 512 * c + j.val := by
    have := j.isLt
    simp [BitVec.toNat_add, BitVec.toNat_mul]
    omega
  have := j.isLt
  rw [BitVec.toInt_eq_toNat_cond, e, if_pos (by omega)]

variable {R : Row} {c : ℕ} {x0 : Vec Ideal S1x128x512 .bf16} {x1 : Vec Ideal S1x128x64 .bf16}
    {x2 : Vec Ideal S1x512x512 .fp8e4m3} {x3 : Vec Ideal S1x512x4 .f32} {x4 : Vec Ideal S1x64x512 .bf16}

/-- The masked scores that the body computes are the row's. -/
theorem scores (H : Holds R c x0 x1 x2 x3 x4) (h : Fin 128) (j : Fin 512) :
    k0_pay4 (F := Ideal) (k0_pay16 x2 x3 x0 x1 x4) (k0_pay17 (F := Ideal) (BitVec.ofNat 32 c) R.len) (Scalar.ofBits .f32 0xFF800000#32) (ix2 h j)
      = R.s h (512 * c + j.val) := by
  have hlt : 512 * c + j.val < 4096 := by have := H.lt; omega
  rw [Pay.pay4, Pay.pay16, Pay.pay17, WordCmp.cmpi_slt_eq, pos_toInt H.lt]
  unfold Row.s
  rw [dif_pos hlt]
  simp only [H.q, H.qr, H.code, H.scale, H.kr]
  by_cases hl : ((512 * c + j.val : ℕ) : ℤ) < R.len.toInt
  · rw [if_pos (by simp only [hl, decide_true]; rfl), if_pos hl]; rfl
  · rw [if_neg (by simp only [hl, decide_false]; decide), if_neg hl]

variable (H : Holds R c x0 x1 x2 x3 x4) (mm : Vec Ideal S128x1 .f32) (h : Fin 128)
  (hm : mm (ix2 h 0) = M (R.s h) (R.sn h) c)

include H hm

/-- The maximum after the run. -/
theorem next_m (x : Fin 128) :
    k0_pay9 (F := Ideal) (k0_pay16 x2 x3 x0 x1 x4) (k0_pay17 (F := Ideal) (BitVec.ofNat 32 c) R.len) (Scalar.ofBits .f32 0xFF800000#32) mm (ix2 h x)
      = M (R.s h) (R.sn h) (c + 1) := by
  rw [Pay.pay9 _ _ _ _ (fun h j => R.s h (512 * c + j.val)) h x (scores H h), hm, M_succ]; rfl

/-- The normaliser after the run, over what it was before. -/
theorem next_l (l : Vec Ideal S128x128 .f32) (x : Fin 128) :
    k0_pay8 (F := Ideal) (k0_pay16 x2 x3 x0 x1 x4) (k0_pay17 (F := Ideal) (BitVec.ofNat 32 c) R.len) (Scalar.ofBits .f32 0xFF800000#32) mm l (ix2 h x)
      = l (ix2 h x) * Ideal.exp (M (R.s h) (R.sn h) c - M (R.s h) (R.sn h) (c + 1))
        + ∑ j : Fin 512, Ideal.exp (R.s h (512 * c + j.val) - M (R.s h) (R.sn h) (c + 1)) := by
  rw [Pay.pay8 _ _ _ _ _ (fun h j => R.s h (512 * c + j.val)) h x (scores H h), hm, M_succ]; rfl

/-- The weighted sum after the run, over what it was before. -/
theorem next_a (a : Vec Ideal S128x512 .f32) (d : Fin 512) :
    k0_pay10 (F := Ideal) (k0_pay15 x2 x3) (k0_pay16 x2 x3 x0 x1 x4) (k0_pay17 (F := Ideal) (BitVec.ofNat 32 c) R.len) (Scalar.ofBits .f32 0xFF800000#32) mm a (ix2 h d)
      = a (ix2 h d) * Ideal.exp (M (R.s h) (R.sn h) c - M (R.s h) (R.sn h) (c + 1))
        + ∑ j : Fin 512, Ideal.exp (R.s h (512 * c + j.val) - M (R.s h) (R.sn h) (c + 1)) * R.v d (512 * c + j.val) := by
  rw [Pay.pay10 _ _ _ _ _ _ (fun h j => R.s h (512 * c + j.val)) h d (scores H h), hm, M_succ]
  refine congrArg₂ (· + ·) rfl (Finset.sum_congr rfl fun j _ => congrArg₂ (· * ·) rfl ?_)
  rw [Pay.pay15, H.code, H.scale]
  unfold Row.v
  rw [dif_pos (by have := H.lt; omega)]; rfl

end Cert.KernelIdeal.Chunk
-- ==== Proof.KernelStep.lean ====
module
public import proofs.«01_k».proof.Proof.Entry
public import proofs.«01_k».proof.Proof.Chunk
public import Idealize.ShloMosaic.Lib.Pipeline.ReadBack

/-! What the kernel's scratch buffers hold after each grid step: the maximum, normaliser and weighted sum of the step's row over the
positions of the runs so far. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Online Cert.Row

/-- Three scratch buffers hold the row's maximum, normaliser and weighted sum over its first `c` runs. -/
structure State (R : Row) (c : ℕ) (mm ll : Vec Ideal S128x128 .f32) (aa : Vec Ideal S128x512 .f32) : Prop where
  m : ∀ h x : Fin 128, mm (ix2 h x) = M (R.s h) (R.sn h) c
  l : ∀ h x : Fin 128, ll (ix2 h x) = L (R.s h) (R.sn h) c
  a : ∀ (h : Fin 128) (d : Fin 512), aa (ix2 h d) = A (R.s h) (R.v d) (R.sn h) (R.kvn d) c

/-- A run with no valid position leaves the state the next run's. -/
theorem State.skip {R : Row} {c : ℕ} {mm ll : Vec Ideal S128x128 .f32} {aa : Vec Ideal S128x512 .f32} (S : State R c mm ll aa)
    (hc : R.len.toInt ≤ (c : ℤ) * 512) : State R (c + 1) mm ll aa where
  m h x := (S.m h x).trans (M_skip _ _ c (R.s_bot h c hc)).symm
  l h x := (S.l h x).trans (L_skip _ _ c (R.s_bot h c hc)).symm
  a h d := (S.a h d).trans (A_skip _ _ _ _ c (R.s_bot h c hc)).symm

variable (m : (ℓ : Loc nD τ sig) → Buf (Elt Ideal) ℓ) (hO : Ok m)

/-- What the body reads for a step's length. -/
abbrev bodyLen (t : Fin (cfgM m hO).N) : BitVec 32 :=
  tbM0_0.view.readAt (Elt Ideal) (Rect.unit (s := S40) (k0_off1 (grid0.coords t)) S1.size (k0_off1_inb (grid0.coords t))).toLoadRect (tbl m 0) (Shape.Idx.first (numel1_S1.symm ▸ Nat.one_pos))

/-- The blocks of a step whose run starts before the length hold the run's operands. -/
theorem holds (t : Fin (cfgM m hO).N) (h : ((t.val % 8 : ℕ) : ℤ) * 512 < (rowT m hO t).len.toInt) :
    Chunk.Holds (rowT m hO t) (t.val % 8) (iblk m hO 0 0 t) (iblk m hO 0 1 t) (iblk m hO 0 2 t) (iblk m hO 0 3 t) (iblk m hO 0 4 t) where
  lt := (coords t).2.2.2
  q := iblk0 m hO t
  qr := iblk1 m hO t
  code := iblk2 m hO t h
  scale := iblk3 m hO t h
  kr := iblk4 m hO t h

/-- The first column of a buffer, read through its rectangle. -/
theorem ld_col (X : Vec Ideal S128x128 .f32) (inb) (h : Fin 128) :
    (View.ld X (Rect.unit (s := S128x128) ![0, 0] ![128, 1] inb) : Vec Ideal S128x1 .f32) (ix2 h 0) = X (ix2 h 0) := by
  pointwise

/-- The first column of a buffer that was stored whole. -/
theorem cov_col (v : View sig .tc .vmem S128x128 .f32) (inb inb') (Z : Vec Ideal S128x128 .f32) (h : Fin 128) :
    (v.readCov (Val := Elt Ideal) [⟨Rect.unit (s := S128x128) ![0, 0] ![128, 128] inb, Z⟩] (Rect.unit (s := S128x128) ![0, 0] ![128, 1] inb').toLoadRect : Vec Ideal S128x1 .f32) (ix2 h 0)
      = Z (ix2 h 0) :=
  (congrFun (View.readCov_fill (Val := Elt Ideal) v inb Z [] (Rect.unit (s := S128x128) ![0, 0] ![128, 1] inb') (by decide)) _).trans (ld_col Z inb' h)

/-- One more run's maximum, normaliser and weighted sum. -/
theorem State.next {R : Row} {n : ℕ} {x0 : Vec Ideal S1x128x512 .bf16} {x1 : Vec Ideal S1x128x64 .bf16} {x2 : Vec Ideal S1x512x512 .fp8e4m3}
    {x3 : Vec Ideal S1x512x4 .f32} {x4 : Vec Ideal S1x64x512 .bf16} {mm ll : Vec Ideal S128x128 .f32} {aa : Vec Ideal S128x512 .f32}
    (S : State R n mm ll aa) (H : Chunk.Holds R n x0 x1 x2 x3 x4) (inb) :
    State R (n + 1) (k0_pay9 (F := Ideal) (k0_pay16 x2 x3 x0 x1 x4) (k0_pay17 (F := Ideal) (BitVec.ofNat 32 n) R.len) (Scalar.ofBits .f32 0xFF800000#32) (View.ld mm (Rect.unit (s := S128x128) ![0, 0] ![128, 1] inb)))
      (k0_pay8 (F := Ideal) (k0_pay16 x2 x3 x0 x1 x4) (k0_pay17 (F := Ideal) (BitVec.ofNat 32 n) R.len) (Scalar.ofBits .f32 0xFF800000#32) (View.ld mm (Rect.unit (s := S128x128) ![0, 0] ![128, 1] inb)) ll)
      (k0_pay10 (F := Ideal) (k0_pay15 x2 x3) (k0_pay16 x2 x3 x0 x1 x4) (k0_pay17 (F := Ideal) (BitVec.ofNat 32 n) R.len) (Scalar.ofBits .f32 0xFF800000#32) (View.ld mm (Rect.unit (s := S128x128) ![0, 0] ![128, 1] inb)) aa) where
  m h x := Chunk.next_m H _ h ((ld_col _ _ h).trans (S.m h 0)) x
  l h x := by
    refine (Chunk.next_l H _ h ((ld_col _ _ h).trans (S.m h 0)) _ x).trans ?_
    rw [S.l, L_succ]
  a h d := by
    refine (Chunk.next_a H _ h ((ld_col _ _ h).trans (S.m h 0)) _ d).trans ?_
    rw [S.a, A_succ]

/-- The length plus one, as the kernel adds it, below the largest word. -/
theorem len_succ (w : BitVec 32) (h0 : 0 < w.toInt) (h1 : w.toInt < 2147483647) :
    (((w + 1#32).toInt : ℝ) : EReal) = ((w.toInt : ℝ) : EReal) + 1 := by
  have e : (w + 1#32).toInt = w.toInt + 1 := by
    rw [BitVec.toInt_add, show (1#32).toInt = 1 from rfl, Int.bmod_def]
    split_ifs <;> omega
  rw [e]
  push_cast
  rfl

/-- The output block over the final state. -/
theorem final_out {R : Row} {mm ll : Vec Ideal S128x128 .f32} {aa : Vec Ideal S128x512 .f32} (S : State R 8 mm ll aa)
    (l1 : Vec Ideal S128x1 .f32) (hl : ∀ h, l1 (ix2 h 0) = ll (ix2 h 0)) (h : Fin 128) (d : Fin 512) :
    k0_pay11 (F := Ideal) l1 aa (ix3 0 h d) = R.out h d := by
  rw [Pay.pay11, hl, S.a, S.l]; rfl

/-- The log-sum-exp block over the final state. -/
theorem final_lse {R : Row} {mm ll : Vec Ideal S128x128 .f32} {aa : Vec Ideal S128x512 .f32} (S : State R 8 mm ll aa)
    (h0 : 0 < R.len.toInt) (h1 : R.len.toInt < 2147483647)
    (l1 m1 : Vec Ideal S128x1 .f32) (hl : ∀ h, l1 (ix2 h 0) = ll (ix2 h 0)) (hm : ∀ h, m1 (ix2 h 0) = mm (ix2 h 0)) (h : Fin 128) :
    k0_pay12 (F := Ideal) R.len l1 m1 (ix3 0 h 0) = R.lse h := by
  rw [Pay.pay12, hl, hm, S.m, S.l, len_succ _ h0 h1]; rfl

section Cases

variable {c : Dev nD} {i : grid0.Coords}
  {arg3 : Memref sig .tc .vmem S1x128x512 .bf16} {harg3 : arg3.IsWhole}
  {arg4 : Memref sig .tc .vmem S1x128x64 .bf16} {harg4 : arg4.IsWhole}
  {arg5 : Memref sig .tc .vmem S1x512x512 .fp8e4m3} {harg5 : arg5.IsWhole}
  {arg6 : Memref sig .tc .vmem S1x512x4 .f32} {harg6 : arg6.IsWhole}
  {arg7 : Memref sig .tc .vmem S1x64x512 .bf16} {harg7 : arg7.IsWhole}
  {arg8 : Memref sig .tc .vmem S1x1x512 .fp8e4m3} {harg8 : arg8.IsWhole}
  {arg9 : Memref sig .tc .vmem S1x1x4 .f32} {harg9 : arg9.IsWhole}
  {arg10 : Memref sig .tc .vmem S1x1x64 .bf16} {harg10 : arg10.IsWhole}
  {arg11 : Memref sig .tc .vmem S1x128x512 .bf16} {harg11 : arg11.IsWhole}
  {arg12 : Memref sig .tc .vmem S1x128x1 .f32} {harg12 : arg12.IsWhole}
  {arg13 : Memref sig .tc .vmem S128x128 .f32} {harg13 : arg13.IsWhole}
  {arg14 : Memref sig .tc .vmem S128x128 .f32} {harg14 : arg14.IsWhole}
  {arg15 : Memref sig .tc .vmem S128x512 .f32} {harg15 : arg15.IsWhole}
  {x0 : Vec Ideal S1x128x512 .bf16}
  {x1 : Vec Ideal S1x128x64 .bf16}
  {x2 : Vec Ideal S1x512x512 .fp8e4m3}
  {x3 : Vec Ideal S1x512x4 .f32}
  {x4 : Vec Ideal S1x64x512 .bf16}
  {x5 : Vec Ideal S1x1x512 .fp8e4m3}
  {x6 : Vec Ideal S1x1x4 .f32}
  {x7 : Vec Ideal S1x1x64 .bf16}
  {xt0 : TbBuf0 (F := Ideal) c tbM0_0} {xs0 xs1 : Vec Ideal S128x128 .f32} {xs2 : Vec Ideal S128x512 .f32}

/-- The length word that the body reads. -/
abbrev lenWord (i : grid0.Coords) {c : Dev nD} (xt0 : TbBuf0 (F := Ideal) c tbM0_0) : BitVec 32 :=
  tbM0_0.view.readAt (Elt Ideal) (Rect.unit (s := S40) (k0_off1 i) S1.size (k0_off1_inb i)).toLoadRect xt0 (Shape.Idx.first (numel1_S1.symm ▸ Nat.one_pos))

/-- The first step of a row leaves the state of its first run. -/
theorem state_A {hc0 : cond0_0 i} {hc2 : ¬cond0_2 i} {hc1 : cond0_1 i (lenWord i xt0)} (R : Row) (hi : (i 1).val = 0) (hw : lenWord i xt0 = R.len)
    (H : Chunk.Holds R 0 x0 x1 x2 x3 x4) (h5 : ∀ d, x5 (ix3 0 0 d) = R.nk d) (h6 : ∀ g, x6 (ix3 0 0 g) = R.ns g) (h7 : ∀ r, x7 (ix3 0 0 r) = R.nr r) :
    State R (0 + 1)
      (sout0_A_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1)
      (sout0_A_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1)
      (sout0_A_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1) := by
  have e1 : ∀ h x : Fin 128, k0_pay1 (F := Ideal) (k0_pay14 x0 x1 x5 x6 x7) (Scalar.ofBits .f32 0x3D93CD3A#32) (ix2 h x) = M (R.s h) (R.sn h) 0 := fun h x => by
    rw [Pay.pay1, Pay.pay14, M_zero]
    simp only [H.q, H.qr, h5, h6, h7]
    rfl
  have hw' : (View.ld (View.read (Elt Ideal) (View.whole main_arg5) xt0) (Rect.unit (k0_off1 i) ![1] (k0_off1_inb i)) (Shape.Idx.first (numel1_S1.symm ▸ Nat.one_pos)) : BitVec 32) = R.len := hw
  refine ⟨fun h x => ?_, fun h x => ?_, fun h d => ?_⟩
  · frame_out
    rw [hi, hw']
    exact Chunk.next_m H _ h ((cov_col _ _ _ _ h).trans (e1 h 0)) x
  · frame_out
    rw [hi, hw']
    refine (Chunk.next_l H _ h ((cov_col _ _ _ _ h).trans (e1 h 0)) _ x).trans ?_
    rw [Pay.pay2, L_one]
  · frame_out
    rw [hi, hw']
    refine (Chunk.next_a H _ h ((cov_col _ _ _ _ h).trans (e1 h 0)) _ d).trans ?_
    rw [Pay.pay3, Pay.pay13, h5, h6, A_one]
    rfl

/-- A later step whose run starts before the length leaves the state of one more run. -/
theorem state_C {hc0 : ¬cond0_0 i} {hc2 : ¬cond0_2 i} {hc1 : cond0_1 i (lenWord i xt0)} (R : Row) (n : ℕ) (hi : (i 1).val = n) (hw : lenWord i xt0 = R.len)
    (H : Chunk.Holds R n x0 x1 x2 x3 x4) (S : State R n xs0 xs1 xs2) :
    State R (n + 1)
      (sout0_C_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1)
      (sout0_C_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1)
      (sout0_C_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1) := by
  have hw' : (View.ld (View.read (Elt Ideal) (View.whole main_arg5) xt0) (Rect.unit (k0_off1 i) ![1] (k0_off1_inb i)) (Shape.Idx.first (numel1_S1.symm ▸ Nat.one_pos)) : BitVec 32) = R.len := hw
  refine ⟨fun h x => ?_, fun h x => ?_, fun h d => ?_⟩ <;> frame_out <;> rw [hi, hw']
  · exact (S.next H _).m h x
  · exact (S.next H _).l h x
  · exact (S.next H _).a h d

/-- A later step whose run starts before the length leaves the state of one more run (the row's last step). -/
theorem state_E {hc0 : ¬cond0_0 i} {hc2 : cond0_2 i} {hc1 : cond0_1 i (lenWord i xt0)} (R : Row) (n : ℕ) (hi : (i 1).val = n) (hw : lenWord i xt0 = R.len)
    (H : Chunk.Holds R n x0 x1 x2 x3 x4) (S : State R n xs0 xs1 xs2) :
    State R (n + 1)
      (sout0_E_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1)
      (sout0_E_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1)
      (sout0_E_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1) := by
  have hw' : (View.ld (View.read (Elt Ideal) (View.whole main_arg5) xt0) (Rect.unit (k0_off1 i) ![1] (k0_off1_inb i)) (Shape.Idx.first (numel1_S1.symm ▸ Nat.one_pos)) : BitVec 32) = R.len := hw
  refine ⟨fun h x => ?_, fun h x => ?_, fun h d => ?_⟩ <;> frame_out <;> rw [hi, hw']
  · exact (S.next H _).m h x
  · exact (S.next H _).l h x
  · exact (S.next H _).a h d

/-- The output block of a row's last step, if its run starts before the length. -/
theorem out_E {hc0 : ¬cond0_0 i} {hc2 : cond0_2 i} {hc1 : cond0_1 i (lenWord i xt0)} (R : Row) (hi : (i 1).val = 7) (hw : lenWord i xt0 = R.len)
    (H : Chunk.Holds R 7 x0 x1 x2 x3 x4) (S : State R 7 xs0 xs1 xs2) (h : Fin 128) (d : Fin 512) :
    out0_E_8 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 (ix3 0 h d) = R.out h d := by
  have hw' : (View.ld (View.read (Elt Ideal) (View.whole main_arg5) xt0) (Rect.unit (k0_off1 i) ![1] (k0_off1_inb i)) (Shape.Idx.first (numel1_S1.symm ▸ Nat.one_pos)) : BitVec 32) = R.len := hw
  frame_out
  rw [hi, hw']
  exact final_out (S.next H _) _ (cov_col _ _ _ _) h d

/-- The log-sum-exp block of a row's last step, if its run starts before the length. -/
theorem lse_E {hc0 : ¬cond0_0 i} {hc2 : cond0_2 i} {hc1 : cond0_1 i (lenWord i xt0)} (R : Row) (hi : (i 1).val = 7) (hw : lenWord i xt0 = R.len)
    (H : Chunk.Holds R 7 x0 x1 x2 x3 x4) (S : State R 7 xs0 xs1 xs2) (h0 : 0 < R.len.toInt) (h1 : R.len.toInt < 2147483647) (h : Fin 128) :
    out0_E_9 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 (ix3 0 h 0) = R.lse h := by
  have hw' : (View.ld (View.read (Elt Ideal) (View.whole main_arg5) xt0) (Rect.unit (k0_off1 i) ![1] (k0_off1_inb i)) (Shape.Idx.first (numel1_S1.symm ▸ Nat.one_pos)) : BitVec 32) = R.len := hw
  frame_out
  rw [hi, hw']
  exact final_lse (S.next H _) h0 h1 _ _ (cov_col _ _ _ _) (cov_col _ _ _ _) h

/-- The output block of a row's last step, if its run starts at or after the length. -/
theorem out_F {hc0 : ¬cond0_0 i} {hc2 : cond0_2 i} {hc1 : ¬cond0_1 i (lenWord i xt0)} (R : Row) (S : State R 8 xs0 xs1 xs2) (h : Fin 128) (d : Fin 512) :
    out0_F_8 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 (ix3 0 h d) = R.out h d := by
  frame_out
  exact final_out S _ (ld_col _ _) h d

/-- The log-sum-exp block of a row's last step, if its run starts at or after the length. -/
theorem lse_F {hc0 : ¬cond0_0 i} {hc2 : cond0_2 i} {hc1 : ¬cond0_1 i (lenWord i xt0)} (R : Row) (hw : lenWord i xt0 = R.len)
    (S : State R 8 xs0 xs1 xs2) (h0 : 0 < R.len.toInt) (h1 : R.len.toInt < 2147483647) (h : Fin 128) :
    out0_F_9 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 (ix3 0 h 0) = R.lse h := by
  have hw' : (View.ld (View.read (Elt Ideal) (View.whole main_arg5) xt0) (Rect.unit (k0_off1 i) ![1] (k0_off1_inb i)) (Shape.Idx.first (numel1_S1.symm ▸ Nat.one_pos)) : BitVec 32) = R.len := hw
  frame_out
  rw [hw']
  exact final_lse S h0 h1 _ _ (ld_col _ _) (ld_col _ _) h

end Cases

end Cert.KernelIdeal.Val
-- ==== Proof.KernelValue.lean ====
module
public import proofs.«01_k».proof.Proof.KernelStep

/-! The kernel's results over the extended reals: every row's output and log-sum-exp. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Online Cert.Row

variable (m : (ℓ : Loc nD τ sig) → Buf (Elt Ideal) ℓ) (hO : Ok m)

/-- The scratch after a grid step holds a state of a row. -/
abbrev StateAt (R : Row) (c : ℕ) (n : ℕ) (hn : n < (cfgM m hO).N) : Prop :=
  State R c (outsAt0 m hO 0 n hn).2.2.1 (outsAt0 m hO 0 n hn).2.2.2.1 (outsAt0 m hO 0 n hn).2.2.2.2

/-- The body's branch on the length, from the row's length. -/
theorem cond_len (t : Fin (cfgM m hO).N) :
    cond0_1 (grid0.coords t) (bodyLen m hO t) ↔ ((t.val % 8 : ℕ) : ℤ) * 512 < (rowT m hO t).len.toInt := by
  rw [cond_iff m hO t, bodyLen, body_word m hO t]

/-- The first step of a row of positive length leaves the state of the first run. -/
theorem state_first (t : Fin (cfgM m hO).N) (h0 : t.val % 8 = 0) (hpos : 0 < (rowT m hO t).len.toInt) :
    StateAt m hO (rowT m hO t) (0 + 1) t.val t.isLt := by
  have hl : ((t.val % 8 : ℕ) : ℤ) * 512 < (rowT m hO t).len.toInt := by rw [h0]; simpa using hpos
  have H := holds m hO t hl
  have hc := (coords t).2.1
  rw [h0] at H hc
  rw [StateAt, outsAt0_A m hO 0 t h0 ((cond_len m hO t).mpr hl) (by omega)]
  dsimp only
  exact state_A (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) hc (xt0 := tbl m 0) (body_word m hO t) H (iblk5 m hO t) (iblk6 m hO t) (iblk7 m hO t)

/-- A later step of a row moves its state on by one run. -/
theorem state_later (t : Fin (cfgM m hO).N) (h0 : ¬ t.val % 8 = 0)
    (S : StateAt m hO (rowT m hO t) (t.val % 8) (t.val - 1) (by omega)) :
    StateAt m hO (rowT m hO t) (t.val % 8 + 1) t.val t.isLt := by
  have hc := (coords t).2.1
  by_cases hl : ((t.val % 8 : ℕ) : ℤ) * 512 < (rowT m hO t).len.toInt
  · have H := holds m hO t hl
    have h1 := (cond_len m hO t).mpr hl
    by_cases h2 : t.val % 8 = 7
    · rw [StateAt, outsAt0_E m hO 0 t h0 h1 h2]
      dsimp only
      exact state_E (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) _ hc (xt0 := tbl m 0) (body_word m hO t) H S
    · rw [StateAt, outsAt0_C m hO 0 t h0 h1 h2]
      dsimp only
      exact state_C (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) _ hc (xt0 := tbl m 0) (body_word m hO t) H S
  · have h1 := fun h => hl ((cond_len m hO t).mp h)
    by_cases h2 : t.val % 8 = 7
    · rw [StateAt, outsAt0_F m hO 0 t h0 h1 h2]
      exact S.skip (not_lt.mp hl)
    · rw [StateAt, outsAt0_D m hO 0 t h0 h1 h2]
      exact S.skip (not_lt.mp hl)

/-- A later step of a row finds what the step before left. -/
theorem state_prev (t : Fin (cfgM m hO).N) (h0 : ¬ t.val % 8 = 0)
    (S : StateAt m hO (rowT m hO ⟨t.val - 1, by omega⟩) ((t.val - 1) % 8 + 1) (t.val - 1) (by omega)) :
    StateAt m hO (rowT m hO t) (t.val % 8) (t.val - 1) (by omega) := by
  have hrow : rowT m hO t = rowT m hO ⟨t.val - 1, by omega⟩ := by
    show rowAt m _ = rowAt m _
    congr 2
    show t.val / 8 = (t.val - 1) / 8
    omega
  rw [hrow, show t.val % 8 = (t.val - 1) % 8 + 1 by omega]
  exact S

/-- After each grid step the scratch holds the step's row over the runs up to the step's. -/
theorem state (hpos : ∀ b, 0 < (rowAt m b).len.toInt) (n : ℕ) : ∀ hn : n < (cfgM m hO).N,
    StateAt m hO (rowT m hO ⟨n, hn⟩) (n % 8 + 1) n hn := by
  induction n using Nat.strong_induction_on with
  | _ n ih =>
    intro hn
    by_cases h0 : n % 8 = 0
    · rw [h0]
      exact state_first m hO ⟨n, hn⟩ h0 (hpos _)
    · exact state_later m hO ⟨n, hn⟩ h0 (state_prev m hO ⟨n, hn⟩ h0 (ih (n - 1) (by omega) (by omega)))

/-- Before a later step of a row the scratch holds the row over the runs before the step's. -/
theorem state_before (hpos : ∀ b, 0 < (rowAt m b).len.toInt) (t : Fin (cfgM m hO).N) (h0 : ¬ t.val % 8 = 0) :
    StateAt m hO (rowT m hO t) (t.val % 8) (t.val - 1) (by omega) :=
  state_prev m hO t h0 (state m hO hpos _ _)

/-- What a row's last step leaves in the output block. -/
theorem out_last (hpos : ∀ b, 0 < (rowAt m b).len.toInt) (t : Fin (cfgM m hO).N) (h2 : t.val % 8 = 7) (h : Fin 128) (d : Fin 512) :
    (outsAt0 m hO 0 t.val t.isLt).1 (ix3 0 h d) = (rowT m hO t).out h d := by
  have hc := (coords t).2.1
  have S := state_before m hO hpos t (by omega)
  rw [h2] at hc S
  by_cases hl : ((t.val % 8 : ℕ) : ℤ) * 512 < (rowT m hO t).len.toInt
  · have H := holds m hO t hl
    rw [h2] at H
    rw [outsAt0_E m hO 0 t (by omega) ((cond_len m hO t).mpr hl) h2]
    dsimp only
    exact out_E (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) hc (xt0 := tbl m 0) (body_word m hO t) H S h d
  · rw [outsAt0_F m hO 0 t (by omega) (fun h => hl ((cond_len m hO t).mp h)) h2]
    dsimp only
    rw [h2] at hl
    exact out_F (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) (xt0 := tbl m 0) (S.skip (not_lt.mp hl)) h d

/-- What a row's last step leaves in the log-sum-exp block. -/
theorem lse_last (hpos : ∀ b, 0 < (rowAt m b).len.toInt) (hlt : ∀ b, (rowAt m b).len.toInt < 2147483647)
    (t : Fin (cfgM m hO).N) (h2 : t.val % 8 = 7) (h : Fin 128) :
    (outsAt0 m hO 0 t.val t.isLt).2.1 (ix3 0 h 0) = (rowT m hO t).lse h := by
  have hc := (coords t).2.1
  have S := state_before m hO hpos t (by omega)
  rw [h2] at hc S
  by_cases hl : ((t.val % 8 : ℕ) : ℤ) * 512 < (rowT m hO t).len.toInt
  · have H := holds m hO t hl
    rw [h2] at H
    rw [outsAt0_E m hO 0 t (by omega) ((cond_len m hO t).mpr hl) h2]
    dsimp only
    exact lse_E (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) hc (xt0 := tbl m 0) (body_word m hO t) H S (hpos _) (hlt _) h
  · rw [outsAt0_F m hO 0 t (by omega) (fun h => hl ((cond_len m hO t).mp h)) h2]
    dsimp only
    rw [h2] at hl
    exact lse_F (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (rowT m hO t) (xt0 := tbl m 0) (body_word m hO t) (S.skip (not_lt.mp hl)) (hpos _) (hlt _) h

end Cert.KernelIdeal.Val
-- ==== Proof.KernelFinal.lean ====
module
public import proofs.«01_k».proof.Proof.KernelValue

/-! The kernel's result arrays over the extended reals, from the blocks that the last step of each row writes back. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Online Cert.Row

variable (m : (ℓ : Loc nD τ sig) → Buf (Elt Ideal) ℓ) (hO : Ok m)

/-- Where an entry of the output block of a grid step lies in the array of outputs. -/
theorem emb8 (t : Fin (cfgM m hO).N) (y : S1x128x512.Idx) :
    ((((cfgM m hO).win 8).blk t).view.emb y : S40x128x512.Idx) = ix3 ⟨t.val / 8, (coords t).2.2.1⟩ (y 1) (y 2) := by
  have e : ∀ a : Fin 3, ((((cfgM m hO).win 8).blk t).view.emb y a : ℕ)
      = cc0_transform_8 (grid0.coords t) a * S1x128x512.size a + (y a : ℕ) :=
    fun a => ValueKit.view_emb_slice_whole_unit_val main_v3_0 _ _ _ _ a
  simp only [transform_8, (coords t).1] at e
  have h0 : (y 0).val < 1 := (y 0).isLt
  refine idx3_eq _ ⟨t.val / 8, (coords t).2.2.1⟩ (y 1) (y 2) ((e 0).trans ?_) ((e 1).trans ?_) ((e 2).trans ?_)
  · show t.val / 8 * 1 + (y 0).val = t.val / 8; omega
  · show 0 * 128 + (y 1).val = (y 1).val; omega
  · show 0 * 512 + (y 2).val = (y 2).val; omega

/-- Where an entry of the log-sum-exp block of a grid step lies in its array. -/
theorem emb9 (t : Fin (cfgM m hO).N) (y : S1x128x1.Idx) :
    ((((cfgM m hO).win 9).blk t).view.emb y : S40x128x1.Idx) = ix3 ⟨t.val / 8, (coords t).2.2.1⟩ (y 1) (y 2) := by
  have e : ∀ a : Fin 3, ((((cfgM m hO).win 9).blk t).view.emb y a : ℕ)
      = cc0_transform_9 (grid0.coords t) a * S1x128x1.size a + (y a : ℕ) :=
    fun a => ValueKit.view_emb_slice_whole_unit_val main_v3_1 _ _ _ _ a
  simp only [transform_9, (coords t).1] at e
  have h0 : (y 0).val < 1 := (y 0).isLt
  refine idx3_eq _ ⟨t.val / 8, (coords t).2.2.1⟩ (y 1) (y 2) ((e 0).trans ?_) ((e 1).trans ?_) ((e 2).trans ?_)
  · show t.val / 8 * 1 + (y 0).val = t.val / 8; omega
  · show 0 * 128 + (y 1).val = (y 1).val; omega
  · show 0 * 1 + (y 2).val = (y 2).val; omega

/-- The last grid step of a row. -/
theorem last_lt (b : Fin 40) : 8 * b.val + 7 < (cfgM m hO).N := by
  have := b.isLt
  show 8 * b.val + 7 < 320
  omega

/-- The array of outputs of the rows. -/
def outArr (R : Fin 40 → Row) : FVec Ideal S40x128x512 .bf16 := fun i => (R (i 0)).out (i 1) (i 2)

/-- The array of log-sum-exps of the rows. -/
def lseArr (R : Fin 40 → Row) : FVec Ideal S40x128x1 .f32 := fun i => (R (i 0)).lse (i 1)

/-- Every output lies in the block of its row's last step. -/
theorem cover8 (i : S40x128x512.Idx) : ∃ t : Fin (cfgM m hO).N, ((cfgM m hO).win 8).flush t = true ∧ i ∈ (((cfgM m hO).win 8).blk t).view.set := by
  obtain ⟨t, ht⟩ : ∃ t : Fin (cfgM m hO).N, t.val = 8 * (i 0).val + 7 := ⟨⟨_, last_lt m hO (i 0)⟩, rfl⟩
  have e := emb8 m hO t (ix3 (0 : Fin 1) (i 1) (i 2) : S1x128x512.Idx)
  have e' : i = ix3 ⟨t.val / 8, (coords t).2.2.1⟩ (i 1) (i 2) := idx3_eq i _ _ _ (by show (i 0).val = t.val / 8; omega) rfl rfl
  have hm := (((cfgM m hO).win 8).blk t).view.emb_mem_set (ix3 (0 : Fin 1) (i 1) (i 2) : S1x128x512.Idx)
  refine ⟨t, (flush0_8 _ t).mpr (by omega), ?_⟩
  have e2 := e.trans e'.symm
  exact (congrArg (fun z => z ∈ (((cfgM m hO).win 8).blk t).view.set) e2).mp hm

/-- Every log-sum-exp lies in the block of its row's last step. -/
theorem cover9 (i : S40x128x1.Idx) : ∃ t : Fin (cfgM m hO).N, ((cfgM m hO).win 9).flush t = true ∧ i ∈ (((cfgM m hO).win 9).blk t).view.set := by
  obtain ⟨t, ht⟩ : ∃ t : Fin (cfgM m hO).N, t.val = 8 * (i 0).val + 7 := ⟨⟨_, last_lt m hO (i 0)⟩, rfl⟩
  have e := emb9 m hO t (ix3 (0 : Fin 1) (i 1) (i 2) : S1x128x1.Idx)
  have e' : i = ix3 ⟨t.val / 8, (coords t).2.2.1⟩ (i 1) (i 2) := idx3_eq i _ _ _ (by show (i 0).val = t.val / 8; omega) rfl rfl
  have hm := (((cfgM m hO).win 9).blk t).view.emb_mem_set (ix3 (0 : Fin 1) (i 1) (i 2) : S1x128x1.Idx)
  refine ⟨t, (flush0_9 _ t).mpr (by omega), ?_⟩
  have e2 := e.trans e'.symm
  exact (congrArg (fun z => z ∈ (((cfgM m hO).win 9).blk t).view.set) e2).mp hm

/-- A row's last step leaves the row's output in the output block. -/
theorem block8 (hpos : ∀ b, 0 < (rowAt m b).len.toInt) (t : Fin (cfgM m hO).N) (h2 : t.val % 8 = 7) (y : S1x128x512.Idx) :
    (outsAt0 m hO 0 t.val t.isLt).1 y = outArr (rowAt m) ((((cfgM m hO).win 8).blk t).view.emb y) := by
  have h0 : (y 0).val < 1 := (y 0).isLt
  refine Eq.trans ?_ (congrArg (outArr (rowAt m)) (emb8 m hO t y)).symm
  refine (congrArg (outsAt0 m hO 0 t.val t.isLt).1 (idx3_eq y 0 (y 1) (y 2) (by show (y 0).val = 0; omega) rfl rfl)).trans ?_
  exact out_last m hO hpos t h2 (y 1) (y 2)

/-- A row's last step leaves the row's log-sum-exp in its block. -/
theorem block9 (hpos : ∀ b, 0 < (rowAt m b).len.toInt) (hlt : ∀ b, (rowAt m b).len.toInt < 2147483647)
    (t : Fin (cfgM m hO).N) (h2 : t.val % 8 = 7) (y : S1x128x1.Idx) :
    (outsAt0 m hO 0 t.val t.isLt).2.1 y = lseArr (rowAt m) ((((cfgM m hO).win 9).blk t).view.emb y) := by
  have h0 : (y 0).val < 1 := (y 0).isLt
  have h1 : (y 2).val < 1 := (y 2).isLt
  refine Eq.trans ?_ (congrArg (lseArr (rowAt m)) (emb9 m hO t y)).symm
  refine (congrArg (outsAt0 m hO 0 t.val t.isLt).2.1 (idx3_eq y 0 (y 1) 0 (by show (y 0).val = 0; omega) rfl (by show (y 2).val = 0; omega))).trans ?_
  exact lse_last m hO hpos hlt t h2 (y 1)

/-- The array of outputs ends holding every row's. -/
theorem final8 (hpos : ∀ b, 0 < (rowAt m b).len.toInt) :
    ((dats m hO 0 0).arrAt 8 (cfgM m hO).N : FVec Ideal S40x128x512 .bf16) = outArr (rowAt m) := by
  refine (dats m hO 0 0).arrAt_eq_of_emb 8 (outArr (rowAt m)) (fun t hf y => ?_) fun i => cover8 m hO i
  have h2 := (flush0_8 _ t).mp hf
  blk_simp
  rw [after0_8]
  exact block8 m hO hpos t h2 y

/-- The array of log-sum-exps ends holding every row's. -/
theorem final9 (hpos : ∀ b, 0 < (rowAt m b).len.toInt) (hlt : ∀ b, (rowAt m b).len.toInt < 2147483647) :
    ((dats m hO 0 0).arrAt 9 (cfgM m hO).N : FVec Ideal S40x128x1 .f32) = lseArr (rowAt m) := by
  refine (dats m hO 0 0).arrAt_eq_of_emb 9 (lseArr (rowAt m)) (fun t hf y => ?_) fun i => cover9 m hO i
  have h2 := (flush0_9 _ t).mp hf
  blk_simp
  rw [after0_9]
  exact block9 m hO hpos hlt t h2 y

end Cert.KernelIdeal.Val
-- ==== Proof.RefPay.lean ====
module
public import proofs.«01_k».proof.Proof.Gen.ReferenceIdeal.Skeleton
public import Idealize.ShloMosaic.Lib.Pipeline.ValueKit
public import Idealize.ShloMosaic.Lib.WordCmp
public import proofs.«01_k».proof.Proof.Row

/-! What the vector computations of the reference hold at an index, over the extended reals. -/

@[expose] public section

set_option maxRecDepth 16384

noncomputable section

namespace Cert.ReferenceIdeal.Pay

open Idealize.ShloMosaic Idealize.ShloMosaic.TcCoe Idealize.SL.Sem
open Cert.ReferenceIdeal Cert.ReferenceIdeal.Gen Cert.Online Cert.Row

/-- The cached latent values: code times its group's scale. -/
theorem pay12 (code : Vec Ideal S40x4096x512 .fp8e4m3) (scale : Vec Ideal S40x4096x4 .f32) (b : Fin 40) (t : Fin 4096) (c : Fin 512) :
    k0_pay12 (F := Ideal) code scale (ix3 b t c) = code (ix3 b t c) * scale (ix3 b t (group c)) := by
  pointwise [k0_pay12]
  rfl

/-- The new token's latent values. -/
theorem pay13 (code : Vec Ideal S40x1x512 .fp8e4m3) (scale : Vec Ideal S40x1x4 .f32) (b : Fin 40) (c : Fin 512) :
    k0_pay13 (F := Ideal) code scale (ix3 b 0 c) = code (ix3 b 0 c) * scale (ix3 b 0 (group c)) := by
  pointwise [k0_pay13]
  rfl

/-- The scores before the mask. -/
theorem pay14 (q : Vec Ideal S40x128x512 .bf16) (qr : Vec Ideal S40x128x64 .bf16) (code : Vec Ideal S40x4096x512 .fp8e4m3)
    (scale : Vec Ideal S40x4096x4 .f32) (kr : Vec Ideal S40x4096x64 .bf16) (b : Fin 40) (h : Fin 128) (t : Fin 4096) :
    k0_pay14 (F := Ideal) q qr code scale kr (ix3 b h t)
      = score (fun c => q (ix3 b h c)) (fun c => code (ix3 b t c) * scale (ix3 b t (group c)))
          (fun r => qr (ix3 b h r)) (fun r => kr (ix3 b t r)) := by
  pointwise [k0_pay14, k0_pay9, k0_pay10]
  simp only [pay12]
  rfl

/-- The latent part of the new token's score. -/
theorem pay15 (q : Vec Ideal S40x128x512 .bf16) (nk : Vec Ideal S40x1x512 .fp8e4m3) (ns : Vec Ideal S40x1x4 .f32)
    (b : Fin 40) (h : Fin 128) :
    k0_pay15 (F := Ideal) q nk ns (ix3 b h 0) = ∑ c, q (ix3 b h c) * (nk (ix3 b 0 c) * ns (ix3 b 0 (group c))) := by
  pointwise [k0_pay15, k0_pay9]
  simp only [pay13]

/-- The new token's score. -/
theorem pay1 (qr : FVec Ideal S40x128x64 .bf16) (v : FVec Ideal S40x128x1 .f32) (nr : Vec Ideal S40x1x64 .bf16)
    (b : Fin 40) (h : Fin 128) :
    k0_pay1 (F := Ideal) qr v nr (ix3 b h 0) = (v (ix3 b h 0) + ∑ r, qr (ix3 b h r) * nr (ix3 b 0 r)) * SC := by
  pointwise [k0_pay1]
  rfl

/-- The masked scores. -/
theorem pay2 (len : IVec S40x1x1 32) (s : FVec Ideal S40x128x4096 .f32) (b : Fin 40) (h : Fin 128) (t : Fin 4096) :
    k0_pay2 (F := Ideal) len s (ix3 b h t) = if (t.val : ℤ) < (len (ix3 b 0 0)).toInt then s (ix3 b h t) else ⊥ := by
  pointwise [k0_pay2]
  unfold Scalar.select
  rw [show Ideal.ofBits .f32 0xFF800000#32 = ⊥ by simp [Ideal.ofBits, Ideal.ieee]]
  have ht := t.isLt
  have e : (BitVec.ofNat 32 t.val).toInt = (t.val : ℤ) := by
    rw [BitVec.toInt_eq_toNat_of_lt] <;> simp <;> omega
  rw [WordCmp.cmpi_slt_eq]
  simp only [BitVec.slt_eq_decide, e]
  exact if_congr (WordCmp.ofBool_decide_eq_one_iff _) rfl rfl

end Cert.ReferenceIdeal.Pay
-- ==== Proof.RefRow.lean ====
module
public import proofs.«01_k».proof.Proof.RefPay

/-! What the vector computations of the reference hold at an index, from a row's scores on, over the extended reals. -/

@[expose] public section

set_option maxRecDepth 16384

noncomputable section

namespace Cert.ReferenceIdeal.Pay

open Idealize.ShloMosaic Idealize.ShloMosaic.TcCoe Idealize.SL.Sem
open Cert.ReferenceIdeal Cert.ReferenceIdeal.Gen Cert.Online Cert.Row

/-- The sum along the last of three axes. -/
theorem rowSum {n0 n1 n2 : ℕ} (v : FVec Ideal ⟨3, ![n0, n1, n2]⟩ .f32) (acc : BitVec 32)
    (hr : (⟨3, ![n0, n1, n2]⟩ : Shape).Reduces [2] ⟨2, ![n0, n1]⟩) (hφ : FKind.Formats .f32) (ha : acc = FKind.add.neutral .f32 hφ)
    (b : Fin n0) (h : Fin n1) (S : Fin n2 → EReal) (hS : ∀ k, v (ix3 b h k) = S k) :
    multiReduction .add [2] ⟨2, ![n0, n1]⟩ v acc hr hφ ha (ix2 b h) = ∑ k, S k :=
  ((multiReduction_add_apply v acc hr hφ ha (ix2 b h)).trans (Ideal.reduceAdd_r3_a2 hr v (ix2 b h))).trans
    (Finset.sum_congr rfl fun k _ => hS k)

/-- The maximum along the last of three axes. -/
theorem rowMax {n0 n1 n2 : ℕ} (v : FVec Ideal ⟨3, ![n0, n1, n2]⟩ .f32)
    (hr : (⟨3, ![n0, n1, n2]⟩ : Shape).Reduces [2] ⟨2, ![n0, n1]⟩) (hφ : FKind.Formats .f32)
    (ha : 0xFF800000#32 = FKind.maximumf.neutral .f32 hφ) (b : Fin n0) (h : Fin n1) (S : Fin n2 → EReal)
    (hS : ∀ k, v (ix3 b h k) = S k) :
    multiReduction .maximumf [2] ⟨2, ![n0, n1]⟩ v 0xFF800000#32 hr hφ ha (ix2 b h) = Finset.univ.sup S := by
  rw [multiReduction_maximumf_eq_fold, hr.fold_fiber_r3_a2]
  show Finset.fold max (Ideal.ofBits .f32 0xFF800000#32) (fun k => v (ix3 b h k)) _ = _
  rw [show Ideal.ofBits .f32 0xFF800000#32 = ⊥ by simp [Ideal.ofBits, Ideal.ieee]]
  simp only [hS]
  rfl

/-- A column of row values. -/
theorem col (v : FVec Ideal S40x128 .f32) (b : Fin 40) (h : Fin 128) :
    shapeCast S40x128x1 v shapeCasts_S40x128_S40x128x1 (ix3 b h 0) = v (ix2 b h) := by
  pointwise

/-- The larger of two vectors at an index. -/
theorem max_at {S : Shape} (x y : FVec Ideal S .f32) (i : S.Idx) (a b : EReal) (ha : x i = a) (hb : y i = b) :
    maximumf x y i = a ⊔ b := by
  subst ha hb
  rfl

/-- The sum of two vectors at an index. -/
theorem add_at {S : Shape} (x y : FVec Ideal S .f32) (i : S.Idx) (a b : EReal) (ha : x i = a) (hb : y i = b) :
    addf x y i = a + b := by
  subst ha hb
  rfl

/-- The difference of two vectors at an index. -/
theorem sub_at {S : Shape} (x y : FVec Ideal S .f32) (i : S.Idx) (a b : EReal) (ha : x i = a) (hb : y i = b) :
    subf x y i = a - b := by
  subst ha hb
  rfl

/-- The logarithm of a vector at an index. -/
theorem log_at {S : Shape} (x : FVec Ideal S .f32) (i : S.Idx) (a : EReal) (ha : x i = a) : log x i = Ideal.log a := by
  subst ha
  rfl

/-- The logarithm of the number of keys of a row. -/
theorem keys (len : IVec S40x1x1 32) (b : Fin 40) (h : Fin 128) :
    broadcastTo S40x128x1 (log (addf (sitofp .f32 len) (broadcast S40x1x1 (Scalar.ofBits .f32 0x3F800000#32 : Ideal .f32)))) broadcasts_S40x1x1_S40x128x1
      (ix3 b h 0) = Ideal.log ((((len (ix3 b 0 0)).toInt : ℝ) : EReal) + 1) := by
  pointwise
  rfl

section Rows

variable (qr : FVec Ideal S40x128x64 .bf16) (len : IVec S40x1x1 32) (s : FVec Ideal S40x128x4096 .f32)
  (v : FVec Ideal S40x128x1 .f32) (nr : Vec Ideal S40x1x64 .bf16) (b : Fin 40) (h : Fin 128) (S : Fin 4096 → EReal) (N : EReal)
  (hS : ∀ t, k0_pay2 (F := Ideal) len s (ix3 b h t) = S t) (hN : k0_pay1 (F := Ideal) qr v nr (ix3 b h 0) = N)
include hS hN

/-- The maximum of a row's scores. -/
theorem pay3 : k0_pay3 (F := Ideal) qr len s v nr (ix3 b h 0) = Finset.univ.sup S ⊔ N := by
  have e : k0_pay3 (F := Ideal) qr len s v nr = maximumf (shapeCast S40x128x1 (multiReduction .maximumf [2] S40x128
      (k0_pay2 (F := Ideal) len s) 0xFF800000#32 reduces_S40x128x4096_S40x128 (.inl rfl) rfl) shapeCasts_S40x128_S40x128x1)
      (k0_pay1 (F := Ideal) qr v nr) := rfl
  rw [e]
  exact max_at _ _ _ _ _ ((col _ b h).trans (rowMax _ _ _ _ b h S hS)) hN

/-- The weights of a row's positions. -/
theorem pay4 (t : Fin 4096) : k0_pay4 (F := Ideal) qr len s v nr (ix3 b h t) = Ideal.exp (S t - (Finset.univ.sup S ⊔ N)) := by
  rw [← pay3 qr len s v nr b h S N hS hN]
  pointwise [k0_pay4]
  simp only [hS]

/-- The weight of the new token. -/
theorem pay5 : k0_pay5 (F := Ideal) qr len s v nr (ix3 b h 0) = Ideal.exp (N - (Finset.univ.sup S ⊔ N)) := by
  rw [← pay3 qr len s v nr b h S N hS hN]
  pointwise [k0_pay5]
  simp only [hN]

/-- The normaliser of a row. -/
theorem pay6 : k0_pay6 (F := Ideal) qr len s v nr (ix3 b h 0)
    = ∑ t, Ideal.exp (S t - (Finset.univ.sup S ⊔ N)) + Ideal.exp (N - (Finset.univ.sup S ⊔ N)) := by
  have e : k0_pay6 (F := Ideal) qr len s v nr = addf (shapeCast S40x128x1 (multiReduction .add [2] S40x128
      (k0_pay4 (F := Ideal) qr len s v nr) 0x00000000#32 reduces_S40x128x4096_S40x128 (.inl rfl) rfl) shapeCasts_S40x128_S40x128x1)
      (k0_pay5 (F := Ideal) qr len s v nr) := rfl
  rw [e]
  exact add_at _ _ _ _ _ ((col _ b h).trans (rowSum _ _ _ _ _ b h _ fun t => pay4 qr len s v nr b h S N hS hN t))
    (pay5 qr len s v nr b h S N hS hN)

/-- The log-sum-exp of a row, less the logarithm of the number of keys. -/
theorem pay7 : k0_pay7 (F := Ideal) qr len s v nr (ix3 b h 0)
    = (Finset.univ.sup S ⊔ N) + Ideal.log (∑ t, Ideal.exp (S t - (Finset.univ.sup S ⊔ N)) + Ideal.exp (N - (Finset.univ.sup S ⊔ N)))
        - Ideal.log ((((len (ix3 b 0 0)).toInt : ℝ) : EReal) + 1) := by
  have e : k0_pay7 (F := Ideal) qr len s v nr = subf (addf (k0_pay3 (F := Ideal) qr len s v nr) (log (k0_pay6 (F := Ideal) qr len s v nr)))
      (broadcastTo S40x128x1 (log (addf (sitofp .f32 len) (broadcast S40x1x1 (Scalar.ofBits .f32 0x3F800000#32 : Ideal .f32)))) broadcasts_S40x1x1_S40x128x1) := rfl
  rw [e]
  exact sub_at _ _ _ _ _ (add_at _ _ _ _ _ (pay3 qr len s v nr b h S N hS hN) (log_at _ _ _ (pay6 qr len s v nr b h S N hS hN))) (keys len b h)

/-- The output of a row. -/
theorem pay8 (kv : FVec Ideal S40x4096x512 .bf16) (kvn : FVec Ideal S40x1x512 .bf16) (d : Fin 512) :
    k0_pay8 (F := Ideal) qr len kv kvn s v nr (ix3 b h d)
      = Ideal.div (∑ t, Ideal.exp (S t - (Finset.univ.sup S ⊔ N)) * kv (ix3 b t d) + Ideal.exp (N - (Finset.univ.sup S ⊔ N)) * kvn (ix3 b 0 d))
          (∑ t, Ideal.exp (S t - (Finset.univ.sup S ⊔ N)) + Ideal.exp (N - (Finset.univ.sup S ⊔ N))) := by
  rw [← pay6 qr len s v nr b h S N hS hN]
  pointwise [k0_pay8]
  rw [Fin.sum_univ_one (fun x => k0_pay5 (F := Ideal) qr len s v nr (ix3 b h x) * kvn (ix3 b x d))]
  simp only [pay4 qr len s v nr b h S N hS hN, pay5 qr len s v nr b h S N hS hN]

end Rows

end Cert.ReferenceIdeal.Pay
-- ==== Proof.RefBlock.lean ====
module
public import proofs.«01_k».proof.Proof.RefRow
public import proofs.«01_k».proof.Proof.Gen.ReferenceIdeal.Frame

/-! The operands that the reference's body reads, as the argument arrays hold them. -/

@[expose] public section

set_option maxRecDepth 16384

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen Cert.Online Cert.Row

variable (m : (ℓ : Loc nD τ sig) → Buf (Elt Ideal) ℓ)

/-- A coordinate of an entry of the one block of an array lies where it is. -/
theorem coord {s : Shape} (o : Fin s.rank → ℕ) (ho : ∀ a, o a = 0) (y : s.Idx) (a : Fin s.rank) (n : ℕ)
    (h : n = o a * s.size a + (y a).val) : n = (y a).val := by
  rw [h, ho a]; omega

/-- Window 0's block is its whole array. -/
theorem whole0 (t : Fin cfg0.N) : (iblk m 0 0 t : Vec Ideal S40x1x1 .i32) = V m 0 main_v0 := by
  funext y
  refine congrArg (V m 0 main_v0 : Vec Ideal S40x1x1 .i32) (funext fun a => Fin.ext ?_)
  exact coord (s := S40x1x1) _ (by intro a; fin_cases a <;> rfl) y a _
    (ValueKit.view_emb_slice_whole_unit_val main_v0 _ _ _ _ a)

/-- Window 1's block is its whole array. -/
theorem whole1 (t : Fin cfg0.N) : (iblk m 0 1 t : Vec Ideal S40x128x512 .bf16) = V m 0 main_v1 := by
  funext y
  refine congrArg (V m 0 main_v1 : Vec Ideal S40x128x512 .bf16) (funext fun a => Fin.ext ?_)
  exact coord (s := S40x128x512) _ (by intro a; fin_cases a <;> rfl) y a _
    (ValueKit.view_emb_slice_whole_unit_val main_v1 _ _ _ _ a)

/-- Window 2's block is its whole array. -/
theorem whole2 (t : Fin cfg0.N) : (iblk m 0 2 t : Vec Ideal S40x128x64 .bf16) = V m 0 main_v2 := by
  funext y
  refine congrArg (V m 0 main_v2 : Vec Ideal S40x128x64 .bf16) (funext fun a => Fin.ext ?_)
  exact coord (s := S40x128x64) _ (by intro a; fin_cases a <;> rfl) y a _
    (ValueKit.view_emb_slice_whole_unit_val main_v2 _ _ _ _ a)

/-- Window 3's block is its whole array. -/
theorem whole3 (t : Fin cfg0.N) : (iblk m 0 3 t : Vec Ideal S40x4096x512 .fp8e4m3) = V m 0 main_arg2 := by
  funext y
  refine congrArg (V m 0 main_arg2 : Vec Ideal S40x4096x512 .fp8e4m3) (funext fun a => Fin.ext ?_)
  exact coord (s := S40x4096x512) _ (by intro a; fin_cases a <;> rfl) y a _
    (ValueKit.view_emb_slice_whole_unit_val main_arg2 _ _ _ _ a)

/-- Window 4's block is its whole array. -/
theorem whole4 (t : Fin cfg0.N) : (iblk m 0 4 t : Vec Ideal S40x4096x4 .f32) = V m 0 main_arg3 := by
  funext y
  refine congrArg (V m 0 main_arg3 : Vec Ideal S40x4096x4 .f32) (funext fun a => Fin.ext ?_)
  exact coord (s := S40x4096x4) _ (by intro a; fin_cases a <;> rfl) y a _
    (ValueKit.view_emb_slice_whole_unit_val main_arg3 _ _ _ _ a)

/-- Window 5's block is its whole array. -/
theorem whole5 (t : Fin cfg0.N) : (iblk m 0 5 t : Vec Ideal S40x4096x64 .bf16) = V m 0 main_arg4 := by
  funext y
  refine congrArg (V m 0 main_arg4 : Vec Ideal S40x4096x64 .bf16) (funext fun a => Fin.ext ?_)
  exact coord (s := S40x4096x64) _ (by intro a; fin_cases a <;> rfl) y a _
    (ValueKit.view_emb_slice_whole_unit_val main_arg4 _ _ _ _ a)

/-- Window 6's block is its whole array. -/
theorem whole6 (t : Fin cfg0.N) : (iblk m 0 6 t : Vec Ideal S40x1x512 .fp8e4m3) = V m 0 main_arg6 := by
  funext y
  refine congrArg (V m 0 main_arg6 : Vec Ideal S40x1x512 .fp8e4m3) (funext fun a => Fin.ext ?_)
  exact coord (s := S40x1x512) _ (by intro a; fin_cases a <;> rfl) y a _
    (ValueKit.view_emb_slice_whole_unit_val main_arg6 _ _ _ _ a)

/-- Window 7's block is its whole array. -/
theorem whole7 (t : Fin cfg0.N) : (iblk m 0 7 t : Vec Ideal S40x1x4 .f32) = V m 0 main_arg7 := by
  funext y
  refine congrArg (V m 0 main_arg7 : Vec Ideal S40x1x4 .f32) (funext fun a => Fin.ext ?_)
  exact coord (s := S40x1x4) _ (by intro a; fin_cases a <;> rfl) y a _
    (ValueKit.view_emb_slice_whole_unit_val main_arg7 _ _ _ _ a)

/-- Window 8's block is its whole array. -/
theorem whole8 (t : Fin cfg0.N) : (iblk m 0 8 t : Vec Ideal S40x1x64 .bf16) = V m 0 main_arg8 := by
  funext y
  refine congrArg (V m 0 main_arg8 : Vec Ideal S40x1x64 .bf16) (funext fun a => Fin.ext ?_)
  exact coord (s := S40x1x64) _ (by intro a; fin_cases a <;> rfl) y a _
    (ValueKit.view_emb_slice_whole_unit_val main_arg8 _ _ _ _ a)

end Cert.ReferenceIdeal.Val
-- ==== Proof.RefOut.lean ====
module
public import proofs.«01_k».proof.Proof.RefRow

/-! What the reference's body computes of each row, as the row's own functions. -/

@[expose] public section

set_option maxRecDepth 16384

noncomputable section

namespace Cert.ReferenceIdeal.Pay

open Idealize.ShloMosaic Idealize.ShloMosaic.TcCoe Idealize.SL.Sem
open Cert.ReferenceIdeal Cert.ReferenceIdeal.Gen Cert.Online Cert.Row

/-- The supremum over the positions as one over the numbers below their count. -/
theorem sup_fin (s : ℕ → EReal) : Finset.univ.sup (fun t : Fin 4096 => s t.val) = (Finset.range (512 * 8)).sup s := by
  refine le_antisymm (Finset.sup_le fun t _ => Finset.le_sup (f := s) (Finset.mem_range.2 t.isLt)) (Finset.sup_le fun t ht => ?_)
  exact Finset.le_sup (f := fun t : Fin 4096 => s t.val) (Finset.mem_univ ⟨t, Finset.mem_range.1 ht⟩)

/-- The sum over the positions as one over the numbers below their count. -/
theorem sum_fin (f : ℕ → EReal) : ∑ t : Fin 4096, f t.val = ∑ t ∈ Finset.range (512 * 8), f t := Fin.sum_univ_eq_sum_range f 4096

/-- The operands hold the rows. -/
structure Holds (x0 : IVec S40x1x1 32) (x1 : FVec Ideal S40x128x512 .bf16) (x2 : FVec Ideal S40x128x64 .bf16)
    (x3 : FVec Ideal S40x4096x512 .fp8e4m3) (x4 : FVec Ideal S40x4096x4 .f32) (x5 : FVec Ideal S40x4096x64 .bf16)
    (x6 : FVec Ideal S40x1x512 .fp8e4m3) (x7 : FVec Ideal S40x1x4 .f32) (x8 : FVec Ideal S40x1x64 .bf16) (R : Fin 40 → Row) : Prop where
  len : ∀ b, x0 (ix3 b 0 0) = (R b).len
  q : ∀ b h d, x1 (ix3 b h d) = (R b).q h d
  qr : ∀ b h r, x2 (ix3 b h r) = (R b).qr h r
  code : ∀ b t d, x3 (ix3 b t d) = (R b).code t d
  scale : ∀ b t g, x4 (ix3 b t g) = (R b).scale t g
  kr : ∀ b t r, x5 (ix3 b t r) = (R b).kr t r
  nk : ∀ b d, x6 (ix3 b 0 d) = (R b).nk d
  ns : ∀ b g, x7 (ix3 b 0 g) = (R b).ns g
  nr : ∀ b r, x8 (ix3 b 0 r) = (R b).nr r

section

variable {x0 : IVec S40x1x1 32} {x1 : FVec Ideal S40x128x512 .bf16} {x2 : FVec Ideal S40x128x64 .bf16}
  {x3 : FVec Ideal S40x4096x512 .fp8e4m3} {x4 : FVec Ideal S40x4096x4 .f32} {x5 : FVec Ideal S40x4096x64 .bf16}
  {x6 : FVec Ideal S40x1x512 .fp8e4m3} {x7 : FVec Ideal S40x1x4 .f32} {x8 : FVec Ideal S40x1x64 .bf16} {R : Fin 40 → Row}
  (H : Holds x0 x1 x2 x3 x4 x5 x6 x7 x8 R) (b : Fin 40) (h : Fin 128)
include H

/-- The masked scores are the row's. -/
theorem scores (t : Fin 4096) : k0_pay2 (F := Ideal) x0 (k0_pay14 (F := Ideal) x1 x2 x3 x4 x5) (ix3 b h t) = (R b).s h t.val := by
  rw [pay2, pay14, H.len]
  unfold Row.s
  rw [dif_pos t.isLt]
  simp only [H.q, H.qr, H.code, H.scale, H.kr]
  rfl

/-- The new token's score is the row's. -/
theorem score_new : k0_pay1 (F := Ideal) x2 (k0_pay15 (F := Ideal) x1 x6 x7) x8 (ix3 b h 0) = (R b).sn h := by
  rw [pay1, pay15]
  simp only [H.q, H.qr, H.nk, H.ns, H.nr]
  rfl

/-- The output is the row's. -/
theorem out (d : Fin 512) : k0_pay8 (F := Ideal) x2 x0 (k0_pay12 (F := Ideal) x3 x4) (k0_pay13 (F := Ideal) x6 x7)
    (k0_pay14 (F := Ideal) x1 x2 x3 x4 x5) (k0_pay15 (F := Ideal) x1 x6 x7) x8 (ix3 b h d) = (R b).out h d := by
  have ev : ∀ t : Fin 4096, k0_pay12 (F := Ideal) x3 x4 (ix3 b t d) = (R b).v d t.val := fun t => by
    rw [pay12, H.code, H.scale]
    unfold Row.v
    rw [dif_pos t.isLt]
    rfl
  have en : k0_pay13 (F := Ideal) x6 x7 (ix3 b 0 d) = (R b).kvn d := by
    rw [pay13, H.nk, H.ns]
    rfl
  rw [pay8 x2 x0 _ _ x8 b h (fun t => (R b).s h t.val) ((R b).sn h) (scores H b h) (score_new H b h)]
  simp only [ev, en]
  rw [sup_fin ((R b).s h)]
  rw [sum_fin (fun t => Ideal.exp ((R b).s h t - ((Finset.range (512 * 8)).sup ((R b).s h) ⊔ (R b).sn h)) * (R b).v d t),
    sum_fin (fun t => Ideal.exp ((R b).s h t - ((Finset.range (512 * 8)).sup ((R b).s h) ⊔ (R b).sn h)))]
  rfl

/-- The log-sum-exp is the row's. -/
theorem lse : k0_pay7 (F := Ideal) x2 x0 (k0_pay14 (F := Ideal) x1 x2 x3 x4 x5) (k0_pay15 (F := Ideal) x1 x6 x7) x8 (ix3 b h 0)
    = (R b).lse h := by
  rw [pay7 x2 x0 _ _ x8 b h (fun t => (R b).s h t.val) ((R b).sn h) (scores H b h) (score_new H b h), H.len]
  rw [sup_fin ((R b).s h)]
  rw [sum_fin (fun t => Ideal.exp ((R b).s h t - ((Finset.range (512 * 8)).sup ((R b).s h) ⊔ (R b).sn h)))]
  rfl

end

end Cert.ReferenceIdeal.Pay
-- ==== Proof.RefFinal.lean ====
module
public import proofs.«01_k».proof.Proof.RefBlock
public import proofs.«01_k».proof.Proof.RefOut
public import proofs.«01_k».proof.Proof.KernelFinal

/-! The reference's result arrays over the extended reals. -/

@[expose] public section

set_option maxRecDepth 16384

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen Cert.ReferenceIdeal.Pay Cert.Online Cert.Row
open Cert.KernelIdeal.Val (rowOf outArr lseArr idx3_eq)

variable (m : (ℓ : Loc nD τ sig) → Buf (Elt Ideal) ℓ)

/-- A row's operands among the reference's argument arrays. -/
def rowAt (b : Fin 40) : Row :=
  rowOf (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (m (((0 : Dev nD) : Thread nD τ).loc main_arg4)) (m (((0 : Dev nD) : Thread nD τ).loc main_arg5))
    (m (((0 : Dev nD) : Thread nD τ).loc main_arg6)) (m (((0 : Dev nD) : Thread nD τ).loc main_arg7))
    (m (((0 : Dev nD) : Thread nD τ).loc main_arg8)) b

/-- The reshaped lengths hold the rows'. -/
theorem V_len (b : Fin 40) : (V m 0 main_v0 : IVec S40x1x1 32) (ix3 b 0 0) = (rowAt m b).len := by
  show _ = (m (((0 : Dev nD) : Thread nD τ).loc main_arg5) : IVec S40 32) (ix1 b)
  entry_read
  pointwise

/-- The reshaped queries hold the rows'. -/
theorem V_q (b : Fin 40) (h : Fin 128) (d : Fin 512) :
    (V m 0 main_v1 : FVec Ideal S40x128x512 .bf16) (ix3 b h d) = (rowAt m b).q h d := by
  show _ = (m (((0 : Dev nD) : Thread nD τ).loc main_arg0) : FVec Ideal S40x1x65536 .bf16) (ix3 b 0 ⟨h.val * 512 + d.val, by omega⟩)
  entry_read
  pointwise

/-- The reshaped rotary queries hold the rows'. -/
theorem V_qr (b : Fin 40) (h : Fin 128) (r : Fin 64) :
    (V m 0 main_v2 : FVec Ideal S40x128x64 .bf16) (ix3 b h r) = (rowAt m b).qr h r := by
  show _ = (m (((0 : Dev nD) : Thread nD τ).loc main_arg1) : FVec Ideal S40x1x128x64 .bf16) (ix4 b 0 h r)
  entry_read
  pointwise

/-- The operands that the body reads hold the rows of the argument arrays. -/
theorem holds : Holds (V m 0 main_v0) (V m 0 main_v1) (V m 0 main_v2) (V m 0 main_arg2) (V m 0 main_arg3) (V m 0 main_arg4)
    (V m 0 main_arg6) (V m 0 main_arg7) (V m 0 main_arg8) (rowAt m) where
  len := V_len m
  q := V_q m
  qr := V_qr m
  code b t d := congrFun (V_main_arg2 m 0) _
  scale b t g := congrFun (V_main_arg3 m 0) _
  kr b t r := congrFun (V_main_arg4 m 0) _
  nk b d := congrFun (V_main_arg6 m 0) _
  ns b g := congrFun (V_main_arg7 m 0) _
  nr b r := congrFun (V_main_arg8 m 0) _

section

variable {x0 : IVec S40x1x1 32} {x1 : FVec Ideal S40x128x512 .bf16} {x2 : FVec Ideal S40x128x64 .bf16}
  {x3 : FVec Ideal S40x4096x512 .fp8e4m3} {x4 : FVec Ideal S40x4096x4 .f32} {x5 : FVec Ideal S40x4096x64 .bf16}
  {x6 : FVec Ideal S40x1x512 .fp8e4m3} {x7 : FVec Ideal S40x1x4 .f32} {x8 : FVec Ideal S40x1x64 .bf16} {R : Fin 40 → Row}
  (H : Holds x0 x1 x2 x3 x4 x5 x6 x7 x8 R)
include H

/-- The buffer of outputs after the body holds every row's. -/
theorem out9 : out0_9 (F := Ideal) x0 x1 x2 x3 x4 x5 x6 x7 x8 = outArr R := by
  funext i
  rw [idx3_eq i (i 0) (i 1) (i 2) rfl rfl rfl]
  refine Eq.trans ?_ (Pay.out H (i 0) (i 1) (i 2))
  refine congrFun ?_ _
  unfold_out out0_9
  unfold k0_pay10 k0_pay11
  frame_out
  rw [shapeCast_self, shapeCast_self]

/-- The buffer of log-sum-exps after the body holds every row's. -/
theorem out10 : out0_10 (F := Ideal) x0 x1 x2 x3 x4 x5 x6 x7 x8 = lseArr R := by
  funext i
  have h2 : (i 2).val < 1 := (i 2).isLt
  rw [idx3_eq i (i 0) (i 1) 0 rfl rfl (by show (i 2).val = 0; omega)]
  refine Eq.trans ?_ (Pay.lse H (i 0) (i 1))
  refine congrFun ?_ _
  unfold_out out0_10
  unfold k0_pay10 k0_pay11
  frame_out
  rw [shapeCast_self, shapeCast_self]

end

/-- The array of outputs ends holding every row's. -/
theorem final9 : ((dats m 0 0).arrAt 9 cfg0.N : FVec Ideal S40x128x512 .bf16) = outArr (rowAt m) := by
  refine (dats m 0 0).arrAt_eq_of_covers 9 (outArr (rowAt m)) (by decide +kernel) (fun t ht y => ?_)
  blk_simp
  rw [after0_9, whole0, whole1, whole2, whole3, whole4, whole5, whole6, whole7, whole8, out9 (holds m)]
  refine congrArg (outArr (rowAt m)) (funext fun a => Fin.ext ?_)
  exact (coord (s := S40x128x512) _ (by intro a; fin_cases a <;> rfl) y a _ (ValueKit.view_emb_slice_whole_unit_val main_v3_0 _ _ _ _ a)).symm

/-- The array of log-sum-exps ends holding every row's. -/
theorem final10 : ((dats m 0 0).arrAt 10 cfg0.N : FVec Ideal S40x128x1 .f32) = lseArr (rowAt m) := by
  refine (dats m 0 0).arrAt_eq_of_covers 10 (lseArr (rowAt m)) (by decide +kernel) (fun t ht y => ?_)
  blk_simp
  rw [after0_10, whole0, whole1, whole2, whole3, whole4, whole5, whole6, whole7, whole8, out10 (holds m)]
  refine congrArg (lseArr (rowAt m)) (funext fun a => Fin.ext ?_)
  exact (coord (s := S40x128x1) _ (by intro a; fin_cases a <;> rfl) y a _ (ValueKit.view_emb_slice_whole_unit_val main_v3_1 _ _ _ _ a)).symm

end Cert.ReferenceIdeal.Val
-- ==== Proof.Algebra.lean ====
module
public import proofs.«01_k».proof.Defs
public import proofs.«01_k».proof.Proof.Lengths
public import proofs.«01_k».proof.Proof.KernelFinal
public import proofs.«01_k».proof.Proof.RefFinal
public import proofs.«01_k».proof.Proof.OkIdeal
public import Idealize.ShloMosaic.Lib.Claim

/-! The kernel and the reference compute the same two arrays over the extended reals. -/

@[expose] public section

set_option maxRecDepth 16384

noncomputable section

namespace Cert.Proof

open Idealize.ShloMosaic Idealize.ShloMosaic.TcCoe Idealize.SL.Sem
open Cert.KernelIdeal.Val (rowOf outArr lseArr)

section Lengths

variable {m : (ℓ : Loc Cert.KernelIdeal.nD Cert.KernelIdeal.τ Cert.KernelIdeal.sig) → Buf (Elt Ideal) ℓ}
  (h : Cert.Pre_KernelIdeal_lengths_in_range m) (b : Fin 40)
include h

/-- Under the precondition a row's length is positive and below the largest word. -/
theorem lengths : 0 < (Cert.KernelIdeal.Val.rowAt m b).len.toInt ∧ (Cert.KernelIdeal.Val.rowAt m b).len.toInt < 2147483647 :=
  Cert.Pre_lengths_in_range.of_fn _ _ _ _ _ _ _ _ _ ix0 (congrFun (h 0) ix0) b

end Lengths

/-- The kernel's run: its two result arrays hold every row's output and log-sum-exp, and its arguments are unchanged. -/
theorem run_kernel (m : (ℓ : Loc Cert.KernelIdeal.nD Cert.KernelIdeal.τ Cert.KernelIdeal.sig) → Buf (Elt Ideal) ℓ) (g : Dev Cert.KernelIdeal.nD → PrngReg)
    (hpos : ∀ b, 0 < (Cert.KernelIdeal.Val.rowAt m b).len.toInt) (hlt : ∀ b, (Cert.KernelIdeal.Val.rowAt m b).len.toInt < 2147483647) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = outArr (Cert.KernelIdeal.Val.rowAt m)
      ∧ r.2.mem ((c.tc : Thread Cert.KernelIdeal.nD Cert.KernelIdeal.τ).loc Cert.KernelIdeal.main_v3_1) = lseArr (Cert.KernelIdeal.Val.rowAt m)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
  refine (θ_run _ _ _).mono (fun r h c => ?_) (θ_run_and (Cert.KernelIdeal.Gen.run_main m g (Cert.KernelIdeal.Val.ok_all _)) (Cert.KernelIdeal.Gen.unchanged m g (Cert.KernelIdeal.Val.ok_all _)))
  obtain ⟨h1, h2⟩ := h
  obtain rfl : c = 0 := Subsingleton.elim _ _
  exact ⟨(Pipeline.FramePost.out_eq h1 0 8).trans (Cert.KernelIdeal.Val.final8 m (Cert.KernelIdeal.Val.ok_all _) hpos), (Pipeline.FramePost.out_eq h1 0 9).trans (Cert.KernelIdeal.Val.final9 m (Cert.KernelIdeal.Val.ok_all _) hpos hlt), h2 0⟩

/-- The reference's run: its two result arrays hold every row's output and log-sum-exp, and its arguments are unchanged. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v3_0) = outArr (Cert.ReferenceIdeal.Val.rowAt m)
      ∧ r.2.mem ((c.tc : Thread Cert.ReferenceIdeal.nD Cert.ReferenceIdeal.τ).loc Cert.ReferenceIdeal.main_v3_1) = lseArr (Cert.ReferenceIdeal.Val.rowAt m)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) := by
  refine (θ_run _ _ _).mono (fun r h c => ?_) (θ_run_and (Cert.ReferenceIdeal.Gen.run_main m g) (Cert.ReferenceIdeal.Gen.unchanged m g))
  obtain ⟨h1, h2⟩ := h
  obtain rfl : c = 0 := Subsingleton.elim _ _
  exact ⟨(Pipeline.FramePost.out_eq h1 0 9).trans (Cert.ReferenceIdeal.Val.final9 m), (Pipeline.FramePost.out_eq h1 0 10).trans (Cert.ReferenceIdeal.Val.final10 m), h2 0⟩

/-- Equal arguments hold equal rows. -/
theorem rows_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : Cert.ReferenceIdeal.Val.rowAt m' = Cert.KernelIdeal.Val.rowAt m := by
  obtain ⟨h0, h1, h2, h3, h4, h5, h6, h7, h8⟩ := h 0
  funext b
  unfold Cert.ReferenceIdeal.Val.rowAt Cert.KernelIdeal.Val.rowAt
  rw [h0, h1, h2, h3, h4, h5, h6, h7, h8]

/-- At equal arguments, the kernel's two result arrays and the reference's agree, for lengths in range. -/
theorem algebraic : Cert.algebraic_KernelIdeal_ReferenceIdeal_pre_lengths_in_range := by
  intro m g m' g' hpre hagree
  refine ⟨fun _ => outArr (Cert.KernelIdeal.Val.rowAt m), fun _ => lseArr (Cert.KernelIdeal.Val.rowAt m),
    run_kernel m g (fun b => (lengths hpre b).1) (fun b => (lengths hpre b).2), ?_⟩
  rw [← rows_eq hagree]
  exact run_reference m' g'

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import proofs.«01_k».proof.Proof.OkKernel
public import proofs.«01_k».proof.Proof.OkIdeal
public import proofs.«01_k».proof.Proof.Algebra
public import Idealize.ShloMosaic.Init

@[expose] public section

noncomputable section

namespace Cert.Proof

open Idealize.ShloMosaic Idealize.SL.Sem Cert.Kernel

/-- Every claim: the programs' frames, the preservation, and the equality of the kernel's results and the reference's. -/
theorem claim : Cert.Claim := ⟨Cert.Kernel.Gen.facts, Cert.KernelIdeal.Gen.facts, Cert.ReferenceIdeal.Gen.facts,
  Cert.Pre_lengths_in_range.facts,
  fun m ρ _ => Cert.Kernel.Gen.frame m ρ (Cert.Kernel.Val.ok_all _),
  fun m ρ _ => Cert.KernelIdeal.Gen.frame m ρ (Cert.KernelIdeal.Val.ok_all _),
  fun m ρ _ => Cert.KernelIdeal.Gen.frame m ρ (Cert.KernelIdeal.Val.ok_all _),
  fun m ρ _ => Cert.ReferenceIdeal.Gen.frame m ρ,
  fun m ρ _ => Cert.ReferenceIdeal.Gen.frame m ρ,
  trivial, algebraic⟩

end Cert.Proof

end
